-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .f32 0x3E96C740#32 (((Real.log 2)⁻¹ * (Real.sqrt 24)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x2048x768 : Shape := ⟨3, ![1, 2048, 768]⟩
abbrev S2304x768 : Shape := ⟨2, ![2304, 768]⟩
abbrev S768x768 : Shape := ⟨2, ![768, 768]⟩
abbrev S_ : Shape := ⟨0, ![]⟩

class Facts : Prop where
  bcast_S_S1x2048x768 : S_.BroadcastsInDim S1x2048x768 (![] : Fin 0 → Fin S1x2048x768.rank)
  bcast_S_S2304x768 : S_.BroadcastsInDim S2304x768 (![] : Fin 0 → Fin S2304x768.rank)

variable [Facts]

def fn {F : FTy → Type} [FloatOps F] (main_arg0 : FVec F S1x2048x768 .f32) (main_arg1 : FVec F S2304x768 .f32) (main_arg2 : FVec F S768x768 .f32) : IVec S1x2048x768 1 × IVec S2304x768 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_v3 : FVec F S2304x768 .f32 := Host.absf main_arg1
  let main_cst_0 : FVec F S_ .f32 := constant S_ .f32 0x7F800000#32
  let main_v4 : FVec F S2304x768 .f32 := broadcastInDim S2304x768 ![] bcast_S_S2304x768 main_cst_0
  let main_v5 : IVec S2304x768 1 := cmpf .olt main_v3 main_v4
  (main_v2, main_v5)
-- ==== Kernel.lean ====
abbrev S1x2048x768 : Shape := ⟨3, ![1, 2048, 768]⟩
abbrev S2304x768 : Shape := ⟨2, ![2304, 768]⟩
abbrev S768x768 : Shape := ⟨2, ![768, 768]⟩
abbrev S2048x768 : Shape := ⟨2, ![2048, 768]⟩
abbrev S2048x2304 : Shape := ⟨2, ![2048, 2304]⟩
abbrev S1x768 : Shape := ⟨2, ![1, 768]⟩
abbrev S1x1536 : Shape := ⟨2, ![1, 1536]⟩
abbrev S1x2304 : Shape := ⟨2, ![1, 2304]⟩
abbrev S256x768 : Shape := ⟨2, ![256, 768]⟩
abbrev S256x256 : Shape := ⟨2, ![256, 256]⟩
abbrev S256x1 : Shape := ⟨2, ![256, 1]⟩
abbrev S256x24 : Shape := ⟨2, ![256, 24]⟩
abbrev S256x25 : Shape := ⟨2, ![256, 25]⟩
abbrev S256 : Shape := ⟨1, ![256]⟩
abbrev S512x768 : Shape := ⟨2, ![512, 768]⟩
abbrev S512x1 : Shape := ⟨2, ![512, 1]⟩
abbrev S512x24 : Shape := ⟨2, ![512, 24]⟩
abbrev S512x25 : Shape := ⟨2, ![512, 25]⟩
abbrev S768x1 : Shape := ⟨2, ![768, 1]⟩
abbrev S768x24 : Shape := ⟨2, ![768, 24]⟩
abbrev S768x25 : Shape := ⟨2, ![768, 25]⟩
abbrev S256x512 : Shape := ⟨2, ![256, 512]⟩
abbrev S1024x768 : Shape := ⟨2, ![1024, 768]⟩
abbrev S1024x1 : Shape := ⟨2, ![1024, 1]⟩
abbrev S1024x24 : Shape := ⟨2, ![1024, 24]⟩
abbrev S1024x25 : Shape := ⟨2, ![1024, 25]⟩
abbrev S1280x768 : Shape := ⟨2, ![1280, 768]⟩
abbrev S1280x1 : Shape := ⟨2, ![1280, 1]⟩
abbrev S1280x24 : Shape := ⟨2, ![1280, 24]⟩
abbrev S1280x25 : Shape := ⟨2, ![1280, 25]⟩
abbrev S256x1024 : Shape := ⟨2, ![256, 1024]⟩
abbrev S1536x768 : Shape := ⟨2, ![1536, 768]⟩
abbrev S1536x1 : Shape := ⟨2, ![1536, 1]⟩
abbrev S1536x24 : Shape := ⟨2, ![1536, 24]⟩
abbrev S1536x25 : Shape := ⟨2, ![1536, 25]⟩
abbrev S256x1280 : Shape := ⟨2, ![256, 1280]⟩
abbrev S1792x768 : Shape := ⟨2, ![1792, 768]⟩
abbrev S1792x1 : Shape := ⟨2, ![1792, 1]⟩
abbrev S1792x24 : Shape := ⟨2, ![1792, 24]⟩
abbrev S1792x25 : Shape := ⟨2, ![1792, 25]⟩
abbrev S256x1536 : Shape := ⟨2, ![256, 1536]⟩
abbrev S2048x1 : Shape := ⟨2, ![2048, 1]⟩
abbrev S2048x24 : Shape := ⟨2, ![2048, 24]⟩
abbrev S2048x25 : Shape := ⟨2, ![2048, 25]⟩
abbrev S256x1792 : Shape := ⟨2, ![256, 1792]⟩

abbrev nBuf : Space → Nat
  | .hbm => 16
  | .vmem => 38
  | .smem => 0
  | _ => 0

abbrev bufTy : (tb : Table) → Fin (tcTables nBuf tb) → BufTy
  | .hbm, ⟨0, _⟩ => ⟨S1x2048x768, .f32⟩
  | .hbm, ⟨1, _⟩ => ⟨S2304x768, .f32⟩
  | .hbm, ⟨2, _⟩ => ⟨S768x768, .f32⟩
  | .hbm, ⟨3, _⟩ => ⟨S2048x768, .f32⟩
  | .hbm, ⟨4, _⟩ => ⟨S2048x2304, .bf16⟩
  | .hbm, ⟨5, _⟩ => ⟨S256x768, .f32⟩
  | .hbm, ⟨6, _⟩ => ⟨S256x768, .f32⟩
  | .hbm, ⟨7, _⟩ => ⟨S256x768, .f32⟩
  | .hbm, ⟨8, _⟩ => ⟨S256x768, .f32⟩
  | .hbm, ⟨9, _⟩ => ⟨S256x768, .f32⟩
  | .hbm, ⟨10, _⟩ => ⟨S256x768, .f32⟩
  | .hbm, ⟨11, _⟩ => ⟨S256x768, .f32⟩
  | .hbm, ⟨12, _⟩ => ⟨S256x768, .f32⟩
  | .hbm, ⟨13, _⟩ => ⟨S2048x768, .f32⟩
  | .hbm, ⟨14, _⟩ => ⟨S2048x768, .f32⟩
  | .hbm, ⟨15, _⟩ => ⟨S1x2048x768, .f32⟩
  | .local _ .vmem, ⟨0, _⟩ => ⟨S2048x768, .f32⟩
  | .local _ .vmem, ⟨1, _⟩ => ⟨S2304x768, .f32⟩
  | .local _ .vmem, ⟨2, _⟩ => ⟨S2048x2304, .bf16⟩
  | .local _ .vmem, ⟨3, _⟩ => ⟨S256x768, .bf16⟩
  | .local _ .vmem, ⟨4, _⟩ => ⟨S256x768, .bf16⟩
  | .local _ .vmem, ⟨5, _⟩ => ⟨S256x768, .bf16⟩
  | .local _ .vmem, ⟨6, _⟩ => ⟨S256x768, .f32⟩
  | .local _ .vmem, ⟨7, _⟩ => ⟨S256x768, .bf16⟩
  | .local _ .vmem, ⟨8, _⟩ => ⟨S512x768, .bf16⟩
  | .local _ .vmem, ⟨9, _⟩ => ⟨S512x768, .bf16⟩
  | .local _ .vmem, ⟨10, _⟩ => ⟨S256x768, .f32⟩
  | .local _ .vmem, ⟨11, _⟩ => ⟨S256x768, .bf16⟩
  | .local _ .vmem, ⟨12, _⟩ => ⟨S768x768, .bf16⟩
  | .local _ .vmem, ⟨13, _⟩ => ⟨S768x768, .bf16⟩
  | .local _ .vmem, ⟨14, _⟩ => ⟨S256x768, .f32⟩
  | .local _ .vmem, ⟨15, _⟩ => ⟨S256x768, .bf16⟩
  | .local _ .vmem, ⟨16, _⟩ => ⟨S1024x768, .bf16⟩
  | .local _ .vmem, ⟨17, _⟩ => ⟨S1024x768, .bf16⟩
  | .local _ .vmem, ⟨18, _⟩ => ⟨S256x768, .f32⟩
  | .local _ .vmem, ⟨19, _⟩ => ⟨S256x768, .bf16⟩
  | .local _ .vmem, ⟨20, _⟩ => ⟨S1280x768, .bf16⟩
  | .local _ .vmem, ⟨21, _⟩ => ⟨S1280x768, .bf16⟩
  | .local _ .vmem, ⟨22, _⟩ => ⟨S256x768, .f32⟩
  | .local _ .vmem, ⟨23, _⟩ => ⟨S256x768, .bf16⟩
  | .local _ .vmem, ⟨24, _⟩ => ⟨S1536x768, .bf16⟩
  | .local _ .vmem, ⟨25, _⟩ => ⟨S1536x768, .bf16⟩
  | .local _ .vmem, ⟨26, _⟩ => ⟨S256x768, .f32⟩
  | .local _ .vmem, ⟨27, _⟩ => ⟨S256x768, .bf16⟩
  | .local _ .vmem, ⟨28, _⟩ => ⟨S1792x768, .bf16⟩
  | .local _ .vmem, ⟨29, _⟩ => ⟨S1792x768, .bf16⟩
  | .local _ .vmem, ⟨30, _⟩ => ⟨S256x768, .f32⟩
  | .local _ .vmem, ⟨31, _⟩ => ⟨S256x768, .bf16⟩
  | .local _ .vmem, ⟨32, _⟩ => ⟨S2048x768, .bf16⟩
  | .local _ .vmem, ⟨33, _⟩ => ⟨S2048x768, .bf16⟩
  | .local _ .vmem, ⟨34, _⟩ => ⟨S256x768, .f32⟩
  | .local _ .vmem, ⟨35, _⟩ => ⟨S2048x768, .f32⟩
  | .local _ .vmem, ⟨36, _⟩ => ⟨S768x768, .f32⟩
  | .local _ .vmem, ⟨37, _⟩ => ⟨S2048x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc3_stg0_0 : Ref sig .tc := ⟨.vmem, 11, rfl⟩
abbrev cc3_stg1_0 : Ref sig .tc := ⟨.vmem, 12, rfl⟩
abbrev cc3_stg2_0 : Ref sig .tc := ⟨.vmem, 13, rfl⟩
abbrev cc3_stg3_0 : Ref sig .tc := ⟨.vmem, 14, rfl⟩
abbrev cc4_stg0_0 : Ref sig .tc := ⟨.vmem, 15, rfl⟩
abbrev cc4_stg1_0 : Ref sig .tc := ⟨.vmem, 16, rfl⟩
abbrev cc4_stg2_0 : Ref sig .tc := ⟨.vmem, 17, rfl⟩
abbrev cc4_stg3_0 : Ref sig .tc := ⟨.vmem, 18, rfl⟩
abbrev cc5_stg0_0 : Ref sig .tc := ⟨.vmem, 19, rfl⟩
abbrev cc5_stg1_0 : Ref sig .tc := ⟨.vmem, 20, rfl⟩
abbrev cc5_stg2_0 : Ref sig .tc := ⟨.vmem, 21, rfl⟩
abbrev cc5_stg3_0 : Ref sig .tc := ⟨.vmem, 22, rfl⟩
abbrev cc6_stg0_0 : Ref sig .tc := ⟨.vmem, 23, rfl⟩
abbrev cc6_stg1_0 : Ref sig .tc := ⟨.vmem, 24, rfl⟩
abbrev cc6_stg2_0 : Ref sig .tc := ⟨.vmem, 25, rfl⟩
abbrev cc6_stg3_0 : Ref sig .tc := ⟨.vmem, 26, rfl⟩
abbrev cc7_stg0_0 : Ref sig .tc := ⟨.vmem, 27, rfl⟩
abbrev cc7_stg1_0 : Ref sig .tc := ⟨.vmem, 28, rfl⟩
abbrev cc7_stg2_0 : Ref sig .tc := ⟨.vmem, 29, rfl⟩
abbrev cc7_stg3_0 : Ref sig .tc := ⟨.vmem, 30, rfl⟩
abbrev cc8_stg0_0 : Ref sig .tc := ⟨.vmem, 31, rfl⟩
abbrev cc8_stg1_0 : Ref sig .tc := ⟨.vmem, 32, rfl⟩
abbrev cc8_stg2_0 : Ref sig .tc := ⟨.vmem, 33, rfl⟩
abbrev cc8_stg3_0 : Ref sig .tc := ⟨.vmem, 34, rfl⟩
abbrev cc9_stg0_0 : Ref sig .tc := ⟨.vmem, 35, rfl⟩
abbrev cc9_stg1_0 : Ref sig .tc := ⟨.vmem, 36, rfl⟩
abbrev cc9_stg2_0 : Ref sig .tc := ⟨.vmem, 37, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc2_sem0_0 : DmaSem sig := 7
abbrev cc2_sem1_0 : DmaSem sig := 8
abbrev cc2_sem2_0 : DmaSem sig := 9
abbrev cc2_sem3_0 : DmaSem sig := 10
abbrev cc3_sem0_0 : DmaSem sig := 11
abbrev cc3_sem1_0 : DmaSem sig := 12
abbrev cc3_sem2_0 : DmaSem sig := 13
abbrev cc3_sem3_0 : DmaSem sig := 14
abbrev cc4_sem0_0 : DmaSem sig := 15
abbrev cc4_sem1_0 : DmaSem sig := 16
abbrev cc4_sem2_0 : DmaSem sig := 17
abbrev cc4_sem3_0 : DmaSem sig := 18
abbrev cc5_sem0_0 : DmaSem sig := 19
abbrev cc5_sem1_0 : DmaSem sig := 20
abbrev cc5_sem2_0 : DmaSem sig := 21
abbrev cc5_sem3_0 : DmaSem sig := 22
abbrev cc6_sem0_0 : DmaSem sig := 23
abbrev cc6_sem1_0 : DmaSem sig := 24
abbrev cc6_sem2_0 : DmaSem sig := 25
abbrev cc6_sem3_0 : DmaSem sig := 26
abbrev cc7_sem0_0 : DmaSem sig := 27
abbrev cc7_sem1_0 : DmaSem sig := 28
abbrev cc7_sem2_0 : DmaSem sig := 29
abbrev cc7_sem3_0 : DmaSem sig := 30
abbrev cc8_sem0_0 : DmaSem sig := 31
abbrev cc8_sem1_0 : DmaSem sig := 32
abbrev cc8_sem2_0 : DmaSem sig := 33
abbrev cc8_sem3_0 : DmaSem sig := 34
abbrev cc9_sem0_0 : DmaSem sig := 35
abbrev cc9_sem1_0 : DmaSem sig := 36
abbrev cc9_sem2_0 : DmaSem sig := 37

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc1_transform_2 (i : grid1.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x768 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc2_transform_1 (i : grid2.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc2_transform_2 (i : grid2.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x768 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x768 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc3_transform_1 (i : grid3.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc3_transform_2 (i : grid3.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x768 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S768x768 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S768x768 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x768 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc4_transform_1 (i : grid4.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc4_transform_2 (i : grid4.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x768 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1024x768 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1024x768 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x768 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc5_transform_1 (i : grid5.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc5_transform_2 (i : grid5.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S256x768 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S1280x768 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1280x768 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x768 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev grid6 : Pipeline.Grid := ⟨1, ![1], ![false]⟩

def cc6_transform_0 (i : grid6.Coords) : Fin 2 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat]

def cc6_transform_1 (i : grid6.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc6_transform_2 (i : grid6.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S256x768 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S1536x768 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1536x768 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x768 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat]

def cc7_transform_1 (i : grid7.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc7_transform_2 (i : grid7.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S256x768 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S1792x768 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1792x768 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x768 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c7_i32 : BitVec 32 := 7#32
  let c0_i32 : BitVec 32 := 0#32
  let c0_i32_0 : BitVec 32 := 0#32
  ![c7_i32.toNat, c0_i32.toNat]

def cc8_transform_1 (i : grid8.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc8_transform_2 (i : grid8.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S256x768 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S2048x768 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S2048x768 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x768 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev grid9 : Pipeline.Grid := .none

abbrev stage9_0 : Fin 1 → Memref sig .tc .vmem S2048x768 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))

abbrev stage9_1 : Fin 1 → Memref sig .tc .vmem S768x768 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))

abbrev stage9_2 : Fin 1 → Memref sig .tc .vmem S2048x768 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
-- ==== KernelIdeal.lean ====
variable {F : FTy → Type} [FloatOps F] [Named F]
def κ : String → Option EReal := fun
  | "scale" => some (((Real.log 2)⁻¹ * (Real.sqrt 24)⁻¹ : ℝ) : EReal)
  | _ => none
-- ==== ReferenceIdeal.lean ====
abbrev S1x2048x768 : Shape := ⟨3, ![1, 2048, 768]⟩
abbrev S2304x768 : Shape := ⟨2, ![2304, 768]⟩
abbrev S768x768 : Shape := ⟨2, ![768, 768]⟩
abbrev S768x2304 : Shape := ⟨2, ![768, 2304]⟩
abbrev S1x2048x2304 : Shape := ⟨3, ![1, 2048, 2304]⟩
abbrev S1x2048x32x24 : Shape := ⟨4, ![1, 2048, 32, 24]⟩
abbrev S1x32x2048x24 : Shape := ⟨4, ![1, 32, 2048, 24]⟩
abbrev S1x32x24x2048 : Shape := ⟨4, ![1, 32, 24, 2048]⟩
abbrev S32x2048x24 : Shape := ⟨3, ![32, 2048, 24]⟩
abbrev S32x24x2048 : Shape := ⟨3, ![32, 24, 2048]⟩
abbrev S32x2048x2048 : Shape := ⟨3, ![32, 2048, 2048]⟩
abbrev S1x32x2048x2048 : Shape := ⟨4, ![1, 32, 2048, 2048]⟩
abbrev S_ : Shape := ⟨0, ![]⟩
abbrev S2048x2048 : Shape := ⟨2, ![2048, 2048]⟩
abbrev S1x1x2048x2048 : Shape := ⟨4, ![1, 1, 2048, 2048]⟩
abbrev S1x32x2048 : Shape := ⟨3, ![1, 32, 2048]⟩
abbrev S1x32x2048x1 : Shape := ⟨4, ![1, 32, 2048, 1]⟩

abbrev nBuf : Space → Nat
  | .hbm => 63
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S2304x768, .f32⟩
  | .hbm, ⟨2, _⟩ => ⟨S768x768, .f32⟩
  | .hbm, ⟨3, _⟩ => ⟨S768x2304, .f32⟩
  | .hbm, ⟨4, _⟩ => ⟨S1x2048x2304, .f32⟩
  | .hbm, ⟨5, _⟩ => ⟨S1x2048x768, .f32⟩
  | .hbm, ⟨6, _⟩ => ⟨S1x2048x768, .f32⟩
  | .hbm, ⟨7, _⟩ => ⟨S1x2048x768, .f32⟩
  | .hbm, ⟨8, _⟩ => ⟨S1x2048x32x24, .f32⟩
  | .hbm, ⟨9, _⟩ => ⟨S1x32x2048x24, .f32⟩
  | .hbm, ⟨10, _⟩ => ⟨S1x2048x32x24, .f32⟩
  | .hbm, ⟨11, _⟩ => ⟨S1x32x2048x24, .f32⟩
  | .hbm, ⟨12, _⟩ => ⟨S1x2048x32x24, .f32⟩
  | .hbm, ⟨13, _⟩ => ⟨S1x32x2048x24, .f32⟩
  | .hbm, ⟨14, _⟩ => ⟨S1x32x24x2048, .f32⟩
  | .hbm, ⟨15, _⟩ => ⟨S32x2048x24, .f32⟩
  | .hbm, ⟨16, _⟩ => ⟨S32x24x2048, .f32⟩
  | .hbm, ⟨17, _⟩ => ⟨S32x2048x2048, .f32⟩
  | .hbm, ⟨18, _⟩ => ⟨S1x32x2048x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x32x2048x2048, .f32⟩
  | .hbm, ⟨24, _⟩ => ⟨S1x32x2048x2048, .f32⟩
  | .hbm, ⟨25, _⟩ => ⟨S_, .i1⟩
  | .hbm, ⟨26, _⟩ => ⟨S2048x2048, .i1⟩
  | .hbm, ⟨27, _⟩ => ⟨S2048x2048, .i32⟩
  | .hbm, ⟨28, _⟩ => ⟨S_, .i32⟩
  | .hbm, ⟨29, _⟩ => ⟨S2048x2048, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S_, .i1⟩
  | .hbm, ⟨34, _⟩ => ⟨S2048x2048, .i1⟩
  | .hbm, ⟨35, _⟩ => ⟨S2048x2048, .i1⟩
  | .hbm, ⟨36, _⟩ => ⟨S1x1x2048x2048, .i1⟩
  | .hbm, ⟨37, _⟩ => ⟨S_, .f32⟩
  | .hbm, ⟨38, _⟩ => ⟨S1x32x2048x2048, .i1⟩
  | .hbm, ⟨39, _⟩ => ⟨S1x32x2048x2048, .f32⟩
  | .hbm, ⟨40, _⟩ => ⟨S1x32x2048x2048, .f32⟩
  | .hbm, ⟨41, _⟩ => ⟨S_, .f32⟩
  | .hbm, ⟨42, _⟩ => ⟨S1x32x2048, .f32⟩
  | .hbm, ⟨43, _⟩ => ⟨S_, .f32⟩
  | .hbm, ⟨44, _⟩ => ⟨S1x32x2048, .f32⟩
  | .hbm, ⟨45, _⟩ => ⟨S1x32x2048, .f32⟩
  | .hbm, ⟨46, _⟩ => ⟨S1x32x2048x1, .f32⟩
  | .hbm, ⟨47, _⟩ => ⟨S1x32x2048x2048, .f32⟩
  | .hbm, ⟨48, _⟩ => ⟨S1x32x2048x2048, .f32⟩
  | .hbm, ⟨49, _⟩ => ⟨S1x32x2048x2048, .f32⟩
  | .hbm, ⟨50, _⟩ => ⟨S_, .f32⟩
  | .hbm, ⟨51, _⟩ => ⟨S1x32x2048, .f32⟩
  | .hbm, ⟨52, _⟩ => ⟨S1x32x2048x1, .f32⟩
  | .hbm, ⟨53, _⟩ => ⟨S1x32x2048x2048, .f32⟩
  | .hbm, ⟨54, _⟩ => ⟨S1x32x2048x2048, .f32⟩
  | .hbm, ⟨55, _⟩ => ⟨S32x2048x2048, .f32⟩
  | .hbm, ⟨56, _⟩ => ⟨S32x2048x24, .f32⟩
  | .hbm, ⟨57, _⟩ => ⟨S32x2048x24, .f32⟩
  | .hbm, ⟨58, _⟩ => ⟨S1x32x2048x24, .f32⟩
  | .hbm, ⟨59, _⟩ => ⟨S1x2048x32x24, .f32⟩
  | .hbm, ⟨60, _⟩ => ⟨S1x2048x768, .f32⟩
  | .hbm, ⟨61, _⟩ => ⟨S768x768, .f32⟩
  | .hbm, ⟨62, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_0 : Ref sig .tc := ⟨.hbm, 33, rfl⟩
abbrev main_call0_v5 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Proof.Heads.lean ====
/- The body of one attention call, written once for every row block.

   A call at row block `i` reads a query block `q` (256 rows), the first `ext = 256 * i` key rows and value rows, and
   treats the 32 heads one after another: it loads the head's 24 columns of each, computes the head's output, and stores
   it in the same 24 columns of its output block. The program below says exactly that, for an arbitrary computation
   `out` of one head; its triple is proved by induction over the list of heads, so that neither the number of heads nor
   the length of the key window matters to the proof. -/
module

public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic

@[expose] public section

noncomputable section

namespace Cert.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The shape of a matrix. -/
abbrev mat (m n : ℕ) : Shape := ⟨2, ![m, n]⟩

/-- The 24 columns of head `h` lie inside a matrix of 768 columns. -/
theorem inb (m : ℕ) (h : Fin 32) : ∀ a, (![0, 24 * h.val] : Fin 2 → ℕ) a + (mat m 24).size a ≤ (mat m 768).size a := by
  intro a
  fin_cases a
  · simp
  · simp; omega

/-- The columns of head `h`, all rows. -/
abbrev cols (m : ℕ) (h : Fin 32) : Rect (mat m 768) := Rect.unit (s := mat m 768) ![0, 24 * h.val] (mat m 24).size (inb m h)

/-- The side conditions on shapes that one head's operations ask for, with `main` earlier key rows and `ext` in all. -/
structure Geo (main ext : ℕ) : Prop where
  same : (mat 256 24).ShapeCasts (mat 256 24)
  sameK : (mat ext 24).ShapeCasts (mat ext 24)
  ones : Shape.Concatenates [mat ext 24, mat ext 1] (mat ext 25) 1
  lastK : (mat ext 24).Slices ![main, 0] (mat 256 24)
  firstK : (mat ext 24).Slices ![0, 0] (mat main 24)
  lastV : (mat ext 25).Slices ![main, 0] (mat 256 25)
  firstV : (mat ext 25).Slices ![0, 0] (mat main 25)
  qkWf : DotDims.WF (mat 256 24) (mat 256 24) (mat 256 256) [1] [1] [0] [0] [] []
  qkMainWf : DotDims.WF (mat 256 24) (mat main 24) (mat 256 main) [1] [1] [0] [0] [] []
  pvWf : DotDims.WF (mat 256 256) (mat 256 25) (mat 256 25) [1] [0] [0] [1] [] []
  pvMainWf : DotDims.WF (mat 256 main) (mat main 25) (mat 256 25) [1] [0] [0] [1] [] []
  redB : (mat 256 256).Reduces [1] ⟨1, ![256]⟩
  redM : (mat 256 main).Reduces [1] ⟨1, ![256]⟩
  col : Shape.ShapeCasts ⟨1, ![256]⟩ (mat 256 1)
  bcB : (mat 256 1).Broadcasts (mat 256 256)
  bcM : (mat 256 1).Broadcasts (mat 256 main)
  bcO : (mat 256 1).Broadcasts (mat 256 24)
  num : (mat 256 25).Slices ![0, 0] (mat 256 24)
  den : (mat 256 25).Slices ![0, 24] (mat 256 1)
  iota0 : (mat 256 256).Iotas .tc 32 [0]
  iota1 : (mat 256 256).Iotas .tc 32 [1]

variable {F : FTy → Type} [FloatOps F]

/-! ## One head's operations -/

section Ops

variable {main ext : ℕ} (g : Geo main ext)

/-- Query rows times key rows, summed over the 24 columns. -/
abbrev qkDot (n : ℕ) (wf : DotDims.WF (mat 256 24) (mat n 24) (mat 256 n) [1] [1] [0] [0] [] []) :
    DotDims (mat 256 24) (mat n 24) (mat 256 n) := ⟨[1], [1], [0], [0], [], [], wf⟩

/-- Weights times value rows, summed over the key rows. -/
abbrev pvDot (n : ℕ) (wf : DotDims.WF (mat 256 n) (mat n 25) (mat 256 25) [1] [0] [0] [1] [] []) :
    DotDims (mat 256 n) (mat n 25) (mat 256 25) := ⟨[1], [0], [0], [1], [], [], wf⟩

/-- Inside the diagonal block a key column is visible from the rows at and below it. -/
def visible : IVec (mat 256 256) 1 :=
  cmpi .sle (iota .tc (mat 256 256) 32 [1] g.iota1) (iota .tc (mat 256 256) 32 [0] g.iota0)

/-- The values with a column of ones appended, whose product with the weights is their sum. -/
def valuesOnes (v : FVec F (mat ext 24) .bf16) : FVec F (mat ext 25) .bf16 :=
  concatenate (mat ext 25) 1 [⟨mat ext 24, shapeCast (mat ext 24) v g.sameK⟩, ⟨mat ext 1, broadcast (mat ext 1) (Scalar.ofBits .bf16 0x3F80#16)⟩] g.ones

/-- A diagonal block's scores: the products where the key is visible, minus infinity elsewhere. -/
def maskScores (q kB : FVec F (mat 256 24) .bf16) : FVec F (mat 256 256) .f32 :=
  select (visible g)
    (matmul (qkDot 256 g.qkWf) none (shapeCast (mat 256 24) q g.same) kB (constant (mat 256 256) .f32 0x00000000#32))
    (broadcast (mat 256 256) (Scalar.ofBits .f32 0xFF800000#32))

/-- The largest entry of each row of a diagonal block. -/
def rowMaxB (s : FVec F (mat 256 256) .f32) : FVec F (mat 256 1) .f32 :=
  shapeCast (mat 256 1) (multiReduction .maximumf [1] ⟨1, ![256]⟩ s 0xFF800000#32 g.redB (.inl rfl) rfl) g.col

/-- The largest entry of each row of the earlier blocks' scores. -/
def rowMaxM (s : FVec F (mat 256 main) .f32) : FVec F (mat 256 1) .f32 :=
  shapeCast (mat 256 1) (multiReduction .maximumf [1] ⟨1, ![256]⟩ s 0xFF800000#32 g.redM (.inl rfl) rfl) g.col

/-- The weights of a diagonal block: two to the power of the score less the row's bound. -/
def weightsB (s : FVec F (mat 256 256) .f32) (mx : FVec F (mat 256 1) .f32) (h : FTy.bits .bf16 < FTy.bits .f32) : FVec F (mat 256 256) .bf16 :=
  truncf .bf16 (exp2 (subf s (broadcastTo (mat 256 256) mx g.bcB))) h

/-- The weights of the earlier blocks. -/
def weightsM (s : FVec F (mat 256 main) .f32) (mx : FVec F (mat 256 1) .f32) (h : FTy.bits .bf16 < FTy.bits .f32) : FVec F (mat 256 main) .bf16 :=
  truncf .bf16 (exp2 (subf s (broadcastTo (mat 256 main) mx g.bcM))) h

/-- The weighted values divided by the weights' sum (the last column). -/
def normal (ol : FVec F (mat 256 25) .f32) : FVec F (mat 256 24) .f32 :=
  mulf (extractStridedSlice (mat 256 24) ![0, 0] ol g.num)
    (broadcastTo (mat 256 24) (divf (broadcast (mat 256 1) (Scalar.ofBits .f32 0x3F800000#32)) (extractStridedSlice (mat 256 1) ![0, 24] ol g.den)) g.bcO)

/-- The bits of the two float types the weights are rounded between. -/
theorem narrower : FTy.bits .bf16 < FTy.bits .f32 := by decide

end Ops

/-- A head's output at the first row block, where the diagonal block is all there is. -/
def firstOut (g : Geo 0 256) (q k v : FVec F (mat 256 24) .bf16) : FVec F (mat 256 24) .f32 :=
  let s := maskScores g q (shapeCast (mat 256 24) k g.same)
  normal g (matmul (pvDot 256 g.pvWf) none (weightsB g s (rowMaxB g s) narrower) (valuesOnes g v) (constant (mat 256 25) .f32 0x00000000#32))

/-- The earlier blocks' scores. -/
def mainScores {main ext : ℕ} (g : Geo main ext) (q : FVec F (mat 256 24) .bf16) (k : FVec F (mat ext 24) .bf16) : FVec F (mat 256 main) .f32 :=
  matmul (qkDot main g.qkMainWf) none (shapeCast (mat 256 24) q g.same)
    (extractStridedSlice (mat main 24) ![0, 0] (shapeCast (mat ext 24) k g.sameK) g.firstK) (constant (mat 256 main) .f32 0x00000000#32)

/-- A head's output at a later row block: the earlier blocks, which are wholly visible, and the diagonal block. -/
def laterOut {main ext : ℕ} (g : Geo main ext) (q : FVec F (mat 256 24) .bf16) (k v : FVec F (mat ext 24) .bf16) : FVec F (mat 256 24) .f32 :=
  let sB := maskScores g q (extractStridedSlice (mat 256 24) ![main, 0] (shapeCast (mat ext 24) k g.sameK) g.lastK)
  let sM := mainScores g q k
  let mx := maximumf (rowMaxM g sM) (rowMaxB g sB)
  normal g (addf
    (matmul (pvDot main g.pvMainWf) none (weightsM g sM mx narrower) (extractStridedSlice (mat main 25) ![0, 0] (valuesOnes g v) g.firstV)
      (constant (mat 256 25) .f32 0x00000000#32))
    (matmul (pvDot 256 g.pvWf) none (weightsB g sB mx narrower) (extractStridedSlice (mat 256 25) ![main, 0] (valuesOnes g v) g.lastV)
      (constant (mat 256 25) .f32 0x00000000#32)))

/-! ## The body as a program over the heads -/

variable {nD : ℕ} {τ : Topo} {sig : RefSig} {Λ : Labels}

theorem pos24 (m : ℕ) (hm : 0 < m) : 0 < (mat m 24).numel := by
  simp [Shape.numel, Fin.prod_univ_two, hm]

section Program

variable (ext : ℕ) (hext : 0 < ext)
  (out : FVec F (mat 256 24) .bf16 → FVec F (mat ext 24) .bf16 → FVec F (mat ext 24) .bf16 → FVec F (mat 256 24) .f32)
  (a1 : Memref sig .tc .vmem (mat 256 768) .bf16) (a2 a3 : Memref sig .tc .vmem (mat ext 768) .bf16)
  (a4 : Memref sig .tc .vmem (mat 256 768) .f32)

/-- The heads in turn: load the three inputs' columns, and store the head's output in the same columns. (The body also
    loads the columns it is about to overwrite, and does not use them.) -/
def body : List (Fin 32) → Prog (TpuEff nD τ sig (Elt F) Λ .tc) PUnit
  | [] => .ret ⟨⟩
  | h :: hs =>
    .op (.load a1 (cols 256 h).toLoadRect (View.loadsAt_vmem (pos24 256 (by decide)))) fun (q : Vec F (mat 256 24) .bf16) =>
    .op (.load a2 (cols ext h).toLoadRect (View.loadsAt_vmem (pos24 ext hext))) fun (k : Vec F (mat ext 24) .bf16) =>
    .op (.load a3 (cols ext h).toLoadRect (View.loadsAt_vmem (pos24 ext hext))) fun (v : Vec F (mat ext 24) .bf16) =>
    .op (.load a4 (cols 256 h).toLoadRect (View.loadsAt_vmem (pos24 256 (by decide)))) fun (_ : Vec F (mat 256 24) .f32) =>
    .op (.store a4 (cols 256 h) (out q k v) Finset.univ (View.stores_vmem_bits_univ (pos24 256 (by decide)) rfl) (.inl rfl)) fun _ =>
    body hs

/-- All 32 heads, in order. -/
abbrev heads : List (Fin 32) :=
  [0, 1, 2, 3, 4, 5, 6, 7, 8, 9, 10, 11, 12, 13, 14, 15, 16, 17, 18, 19, 20, 21, 22, 23, 24, 25, 26, 27, 28, 29, 30, 31]

end Program

end Cert.Heads
-- ==== Proof.Dense.lean ====
/- The two dense products around the attention, each on whole matrices: the projection to queries, keys and values, whose
   query columns are scaled, and the projection of the heads' outputs. Then the shape conditions of the eight row blocks. -/
module

public import proofs.«01_k».proof.Proof.Heads

@[expose] public section

noncomputable section

namespace Cert.Dense

open Idealize.ShloMosaic
open Cert.Heads (mat Geo)

variable {F : FTy → Type} [FloatOps F]

/-- The index conditions of the product of 2048 rows with 2304 rows. -/
theorem wf2304 : DotDims.WF (mat 2048 768) (mat 2304 768) (mat 2048 2304) [1] [1] [0] [0] [] [] := by decide
/-- The index conditions of the product of 2048 rows with 768 rows. -/
theorem wf768 : DotDims.WF (mat 2048 768) (mat 768 768) (mat 2048 768) [1] [1] [0] [0] [] [] := by decide
/-- A matrix recast to its own shape. -/
theorem same : (mat 2048 768).ShapeCasts (mat 2048 768) := by decide
/-- The 768 scaled columns and the 1536 others make the 2304. -/
theorem scaleCat : Shape.Concatenates [mat 1 768, mat 1 1536] (mat 1 2304) 1 := by decide
/-- The row of scales is the same for every row. -/
theorem scaleRows : (mat 1 2304).Broadcasts (mat 2048 2304) := by decide

/-- `x · wᵀ` for 2304 rows of `w`. -/
abbrev dot2304 : DotDims (mat 2048 768) (mat 2304 768) (mat 2048 2304) := ⟨[1], [1], [0], [0], [], [], wf2304⟩
/-- `x · wᵀ` for 768 rows of `w`. -/
abbrev dot768 : DotDims (mat 2048 768) (mat 768 768) (mat 2048 768) := ⟨[1], [1], [0], [0], [], [], wf768⟩

/-- Queries, keys and values side by side: `x · wᵀ`, the 768 query columns multiplied by `s`, rounded to bf16. -/
def qkv (s : F .f32) (x : Vec F (mat 2048 768) .f32) (w : Vec F (mat 2304 768) .f32) : Vec F (mat 2048 2304) .bf16 :=
  truncf .bf16 (mulf (matmul dot2304 none (shapeCast (mat 2048 768) x same) w (constant (mat 2048 2304) .f32 0x00000000#32))
    (broadcastTo (mat 2048 2304) (concatenate (mat 1 2304) 1
      [⟨mat 1 768, broadcast (mat 1 768) s⟩, ⟨mat 1 1536, broadcast (mat 1 1536) (Scalar.ofBits .f32 0x3F800000#32)⟩] scaleCat) scaleRows))
    Heads.narrower

/-- The outputs projected: `y · wᵀ`. -/
def proj (y : Vec F (mat 2048 768) .f32) (w : Vec F (mat 768 768) .f32) : Vec F (mat 2048 768) .f32 :=
  matmul dot768 none (shapeCast (mat 2048 768) y same) w (constant (mat 2048 768) .f32 0x00000000#32)

/-! ## The shape conditions of each row block -/

/-- The first row block. -/
theorem geo0 : Geo 0 256 := by constructor <;> decide
/-- The second row block, with one earlier block. -/
theorem geo1 : Geo 256 512 := by constructor <;> decide
/-- The third. -/
theorem geo2 : Geo 512 768 := by constructor <;> decide
/-- The fourth. -/
theorem geo3 : Geo 768 1024 := by constructor <;> decide
/-- The fifth. -/
theorem geo4 : Geo 1024 1280 := by constructor <;> decide
/-- The sixth. -/
theorem geo5 : Geo 1280 1536 := by constructor <;> decide
/-- The seventh. -/
theorem geo6 : Geo 1536 1792 := by constructor <;> decide
/-- The eighth. -/
theorem geo7 : Geo 1792 2048 := by constructor <;> decide

end Cert.Dense

end
-- ==== Proof.Whole.lean ====
/- The body of a call without a grid: both operands are read whole, and one store fills the whole result. -/
module

public import proofs.«01_k».proof.Proof.Heads

@[expose] public section

noncomputable section

namespace Cert.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Heads (mat)

variable {F : FTy → Type} [FloatOps F] {nD : ℕ} {τ : Topo} {sig : RefSig} {Λ : Labels} {U : Type} [URA U]

local notation "𝕄" => MT nD τ sig Unit (Elt F) ℕ U ℕ

/-- A matrix lies inside itself. -/
theorem inb (m n : ℕ) : ∀ a, (![0, 0] : Fin 2 → ℕ) a + (mat m n).size a ≤ (mat m n).size a := by
  intro a; fin_cases a <;> simp

/-- All of a matrix. -/
abbrev all (m n : ℕ) : Rect (mat m n) := Rect.unit (s := mat m n) ![0, 0] (mat m n).size (inb m n)

variable {m n p q k l : ℕ} {e : EltTy} (h1 : 0 < (mat m n).numel) (h2 : 0 < (mat p q).numel) (h3 : 0 < (mat k l).numel)
  (out : Vec F (mat m n) .f32 → Vec F (mat p q) .f32 → Vec F (mat k l) e)
  (a1 : Memref sig .tc .vmem (mat m n) .f32) (a2 : Memref sig .tc .vmem (mat p q) .f32) (a3 : Memref sig .tc .vmem (mat k l) e)
  (hs : (a3.access (all k l)).Stores Finset.univ)

/-- Read both operands, (read the result, and not use it,) and store `out` of the operands over the whole result. -/
def body : Prog (TpuEff nD τ sig (Elt F) Λ .tc) PUnit :=
  .op (.load a1 (all m n).toLoadRect (View.loadsAt_vmem h1)) fun (x : Vec F (mat m n) .f32) =>
  .op (.load a2 (all p q).toLoadRect (View.loadsAt_vmem h2)) fun (y : Vec F (mat p q) .f32) =>
  .op (.load a3 (all k l).toLoadRect (View.loadsAt_vmem h3)) fun (_ : Vec F (mat k l) e) =>
  .op (.store a3 (all k l) (out x y) Finset.univ hs (.inl rfl)) fun _ => .ret ⟨⟩

variable (defs : Defs nD τ sig (Elt F) Λ) (c : Dev nD) (E : Set ℕ)

/-- The body as a pipeline calls it: the invariant `Φ` and what the core owes, `O`, pass by; the operands' staging
    memrefs hold `x` and `y` whatever was there before, and the result's ends at `out x y`. -/
theorem obligation (x : Vec F (mat m n) .f32) (y : Vec F (mat p q) .f32) (Φ O : sProp 𝕄)
    (b1 : Vec F (mat m n) .f32 → Vec F (mat m n) .f32) (b2 : Vec F (mat p q) .f32 → Vec F (mat p q) .f32)
    (b3 : Vec F (mat k l) e → Vec F (mat k l) e) (hb1 : ∀ d, b1 d = x) (hb2 : ∀ d, b2 d = y)
    (prog : Prog (TpuEff nD τ sig (Elt F) Λ .tc) PUnit) (hp : prog = body h1 h2 h3 out a1 a2 a3 hs) :
    iprop(Φ ∗ O ∗ (∃ d, owns (c : Thread nD τ) a1 fullShare (b1 d)) ∗ (∃ d, owns (c : Thread nD τ) a2 fullShare (b2 d))
        ∗ (∃ d, owns (c : Thread nD τ) a3 fullShare (b3 d)))
      ⊢ wp frame (wpE defs Variants.none c none) E prog fun _ =>
        iprop(Φ ∗ O ∗ owns (c : Thread nD τ) a1 fullShare x ∗ owns (c : Thread nD τ) a2 fullShare y
          ∗ owns (c : Thread nD τ) a3 fullShare (out x y)) := by
  subst hp
  simp only [hb1, hb2]
  unfold owns body
  iintro ⟨HΦ, HO, ⟨%d1, %f1, %hf1, H1⟩, ⟨%d2, %f2, %hf2, H2⟩, ⟨%d3, %f3, -, H3⟩⟩
  subst hf1 hf2
  sl_step
  sl_step
  sl_step
  sl_step
  sl_step
  isplitl [HΦ]; · iexact HΦ
  isplitl [HO]; · iexact HO
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → ℕ) = fun _ => 0 := by funext a; fin_cases a <;> rfl
  refine (View.read_writes_eq_canon (v := a3.view) (Val := Elt F) f3 [⟨all k l, _⟩] fun y => ⟨_, List.mem_singleton_self _, ?_⟩).trans ?_
  · exact (Rect.mem_set_unit (inb := inb k l)).mpr fun a => by
      have := (y a).isLt
      rw [hz]; exact ⟨Nat.zero_le _, by simpa using this⟩
  · rw [View.canon_cons_unit_zero hz]
    exact congrArg₂ out (View.ld_unit_zero hz _ _) (View.ld_unit_zero hz _ _)

end Cert.Whole
-- ==== Proof.HeadsRun.lean ====
/- What the program over the heads (Heads.lean) leaves in its output block, proved by induction over the heads. -/
module

public import proofs.«01_k».proof.Proof.Heads

@[expose] public section

noncomputable section

namespace Cert.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {nD : ℕ} {τ : Topo} {sig : RefSig} {Λ : Labels} {U : Type} [URA U]

local notation "𝕄" => MT nD τ sig Unit (Elt F) ℕ U ℕ

section Pieces

variable {ext : ℕ}
  (out : FVec F (mat 256 24) .bf16 → FVec F (mat ext 24) .bf16 → FVec F (mat ext 24) .bf16 → FVec F (mat 256 24) .f32)
  (x1 : Vec F (mat 256 768) .bf16) (x2 x3 : Vec F (mat ext 768) .bf16)

/-- What one head stores: its output from the three inputs' columns, over the head's columns. -/
def piece (h : Fin 32) : View.Piece (Elt F) (mat 256 768) .f32 :=
  ⟨cols 256 h, out (View.ld x1 (cols 256 h)) (View.ld x2 (cols ext h)) (View.ld x3 (cols ext h))⟩

/-- The stores of a list of heads, the last first, before those of `L`. -/
def pieces : List (Fin 32) → List (View.Piece (Elt F) (mat 256 768) .f32) → List (View.Piece (Elt F) (mat 256 768) .f32)
  | [], L => L
  | h :: hs, L => pieces hs (piece out x1 x2 x3 h :: L)

theorem mem_pieces (p : View.Piece (Elt F) (mat 256 768) .f32) : ∀ (hs : List (Fin 32)) (L : List (View.Piece (Elt F) (mat 256 768) .f32)),
    p ∈ pieces out x1 x2 x3 hs L ↔ p ∈ L ∨ ∃ h ∈ hs, p = piece out x1 x2 x3 h
  | [], L => by simp [pieces]
  | h :: hs, L => by
    rw [pieces, mem_pieces p hs]
    simp only [List.mem_cons, exists_eq_or_imp]
    tauto

/-- The head that owns a column. -/
abbrev headOf (j : Fin 768) : Fin 32 := ⟨j.val / 24, by omega⟩
/-- A column's place inside its head. -/
abbrev lane (j : Fin 768) : Fin 24 := ⟨j.val % 24, by omega⟩

/-- The output block: column `j` is column `j % 24` of head `j / 24`'s output. -/
def block : Vec F (mat 256 768) .f32 := fun y =>
  out (View.ld x1 (cols 256 (headOf (y 1)))) (View.ld x2 (cols ext (headOf (y 1)))) (View.ld x3 (cols ext (headOf (y 1))))
    (fun a => match a with | ⟨0, _⟩ => y 0 | ⟨1, _⟩ => lane (y 1))

theorem mem_heads (h : Fin 32) : h ∈ heads := by
  fin_cases h <;> simp [heads]

/-- Every entry of the block is stored by the head that owns its column. -/
theorem covered (y : (mat 256 768).Idx) : ∃ p ∈ pieces out x1 x2 x3 heads [], y ∈ p.1.set := by
  refine ⟨piece out x1 x2 x3 (headOf (y 1)), (mem_pieces _ _ _ _ _ _ _).mpr (.inr ⟨_, mem_heads _, rfl⟩), ?_⟩
  refine (Rect.mem_set_unit (inb := inb 256 (headOf (y 1)))).mpr fun a => ?_
  fin_cases a
  · exact ⟨Nat.zero_le _, (y 0).isLt⟩
  · have := (y 1).isLt
    refine ⟨?_, ?_⟩ <;> simp [headOf] <;> omega

/-- The heads' stores together are the block. -/
theorem canon_pieces : View.canon (pieces out x1 x2 x3 heads []) = block out x1 x2 x3 := by
  funext y
  refine View.canon_apply_of_pieces (block out x1 x2 x3) _ ?_ y (covered out x1 x2 x3 y)
  intro p hp x
  obtain h | ⟨h, -, rfl⟩ := (mem_pieces _ _ _ _ _ _ _).mp hp
  · simp at h
  have h24 : (x 1).val < 24 := (x 1).isLt
  have hh : headOf (((piece out x1 x2 x3 h).1.emb x) 1) = h := by
    refine Fin.ext ?_
    show (24 * h.val + 1 * (x 1).val) / 24 = h.val
    omega
  show _ = block out x1 x2 x3 _
  unfold block
  rw [hh]
  show out _ _ _ x = out _ _ _ _
  congr 1
  funext a
  fin_cases a
  · refine Fin.ext ?_
    show (x 0).val = 0 + 1 * (x 0).val
    omega
  · refine Fin.ext ?_
    show (x 1).val = (24 * h.val + 1 * (x 1).val) % 24
    omega

end Pieces

variable (defs : Defs nD τ sig (Elt F) Λ) (c : Dev nD) (E : Set ℕ)
  (ext : ℕ) (hext : 0 < ext)
  (out : FVec F (mat 256 24) .bf16 → FVec F (mat ext 24) .bf16 → FVec F (mat ext 24) .bf16 → FVec F (mat 256 24) .f32)
  (a1 : Memref sig .tc .vmem (mat 256 768) .bf16) (a2 a3 : Memref sig .tc .vmem (mat ext 768) .bf16)
  (a4 : Memref sig .tc .vmem (mat 256 768) .f32)

/-- The run of the heads, the three inputs held at any contents and the output block at any list of stores: the inputs
    stay, and each head's store is added. -/
theorem body_run (f1 : Buf (Elt F) (a1.view.loc (c : Thread nD τ))) (f2 : Buf (Elt F) (a2.view.loc (c : Thread nD τ)))
    (f3 : Buf (Elt F) (a3.view.loc (c : Thread nD τ))) (f4 : Buf (Elt F) (a4.view.loc (c : Thread nD τ))) (K : PUnit → sProp 𝕄) :
    ∀ (hs : List (Fin 32)) (L : List (View.Piece (Elt F) (mat 256 768) .f32)),
    iprop((a1.view.loc (c : Thread nD τ) ↦[a1.view.set]{fullShare} f1) ∗ (a2.view.loc (c : Thread nD τ) ↦[a2.view.set]{fullShare} f2)
        ∗ (a3.view.loc (c : Thread nD τ) ↦[a3.view.set]{fullShare} f3)
        ∗ (a4.view.loc (c : Thread nD τ) ↦[a4.view.set]{fullShare} a4.view.writes (Elt F) f4 L)
        ∗ (iprop((a1.view.loc (c : Thread nD τ) ↦[a1.view.set]{fullShare} f1) ∗ (a2.view.loc (c : Thread nD τ) ↦[a2.view.set]{fullShare} f2)
            ∗ (a3.view.loc (c : Thread nD τ) ↦[a3.view.set]{fullShare} f3)
            ∗ (a4.view.loc (c : Thread nD τ) ↦[a4.view.set]{fullShare} a4.view.writes (Elt F) f4
                (pieces out (a1.view.read (Elt F) f1) (a2.view.read (Elt F) f2) (a3.view.read (Elt F) f3) hs L))) -∗ K ⟨⟩))
      ⊢ wp frame (wpE defs Variants.none c none) E (body ext hext out a1 a2 a3 a4 hs) K
  | [], L => by
    unfold body pieces
    iintro ⟨H1, H2, H3, H4, Hk⟩
    sl_step
    iapply Hk
    isplitl [H1]; · iexact H1
    isplitl [H2]; · iexact H2
    isplitl [H3]; · iexact H3
    iexact H4
  | h :: hs, L => by
    unfold body pieces
    iintro ⟨H1, H2, H3, H4, Hk⟩
    sl_step
    sl_step
    sl_step
    sl_step
    sl_step
    iapply (body_run f1 f2 f3 f4 K hs (piece out (a1.view.read (Elt F) f1) (a2.view.read (Elt F) f2) (a3.view.read (Elt F) f3) h :: L))
    isplitl [H1]; · iexact H1
    isplitl [H2]; · iexact H2
    isplitl [H3]; · iexact H3
    isplitl [H4]; · iexact H4
    iexact Hk

/-- The whole body on staging memrefs holding `x1`, `x2` and `x3`: they stay, and the output's holds the block. -/
theorem body_sound (x1 : Vec F (mat 256 768) .bf16) (x2 x3 : Vec F (mat ext 768) .bf16) (K : PUnit → sProp 𝕄) :
    iprop(owns (c : Thread nD τ) a1 fullShare x1 ∗ owns (c : Thread nD τ) a2 fullShare x2 ∗ owns (c : Thread nD τ) a3 fullShare x3
        ∗ (∃ d, owns (c : Thread nD τ) a4 fullShare d)
        ∗ (iprop(owns (c : Thread nD τ) a1 fullShare x1 ∗ owns (c : Thread nD τ) a2 fullShare x2 ∗ owns (c : Thread nD τ) a3 fullShare x3
            ∗ owns (c : Thread nD τ) a4 fullShare (block out x1 x2 x3)) -∗ K ⟨⟩))
      ⊢ wp frame (wpE defs Variants.none c none) E (body ext hext out a1 a2 a3 a4 heads) K := by
  unfold owns
  iintro ⟨⟨%f1, %hf1, H1⟩, ⟨%f2, %hf2, H2⟩, ⟨%f3, %hf3, H3⟩, ⟨%d, %f4, -, H4⟩, Hk⟩
  subst hf1 hf2 hf3
  iapply (body_run defs c E ext hext out a1 a2 a3 a4 f1 f2 f3 f4 K heads [])
  isplitl [H1]; · iexact H1
  isplitl [H2]; · iexact H2
  isplitl [H3]; · iexact H3
  isplitl [H4]; · iexact H4
  iintro ⟨H1, H2, H3, H4⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact (View.read_writes_eq_canon _ _ _ (covered out _ _ _)).trans (canon_pieces out _ _ _)

/-- The body as a pipeline calls it: the invariant `Φ` and what the core owes, `O`, pass by; each input's staging memref
    holds its block `x` whatever was there before, and the output's ends at the block of outputs. -/
theorem obligation (x1 : Vec F (mat 256 768) .bf16) (x2 x3 : Vec F (mat ext 768) .bf16) (Φ O : sProp 𝕄)
    (b1 : Vec F (mat 256 768) .bf16 → Vec F (mat 256 768) .bf16) (b2 b3 : Vec F (mat ext 768) .bf16 → Vec F (mat ext 768) .bf16)
    (b4 : Vec F (mat 256 768) .f32 → Vec F (mat 256 768) .f32) (h1 : ∀ d, b1 d = x1) (h2 : ∀ d, b2 d = x2) (h3 : ∀ d, b3 d = x3)
    (prog : Prog (TpuEff nD τ sig (Elt F) Λ .tc) PUnit) (hp : prog = body ext hext out a1 a2 a3 a4 heads) :
    iprop(Φ ∗ O ∗ (∃ d, owns (c : Thread nD τ) a1 fullShare (b1 d)) ∗ (∃ d, owns (c : Thread nD τ) a2 fullShare (b2 d))
        ∗ (∃ d, owns (c : Thread nD τ) a3 fullShare (b3 d)) ∗ (∃ d, owns (c : Thread nD τ) a4 fullShare (b4 d)))
      ⊢ wp frame (wpE defs Variants.none c none) E prog fun _ =>
        iprop(Φ ∗ O ∗ owns (c : Thread nD τ) a1 fullShare x1 ∗ owns (c : Thread nD τ) a2 fullShare x2
          ∗ owns (c : Thread nD τ) a3 fullShare x3 ∗ owns (c : Thread nD τ) a4 fullShare (block out x1 x2 x3)) := by
  subst hp
  simp only [h1, h2, h3]
  iintro ⟨HΦ, HO, ⟨%d1, H1⟩, ⟨%d2, H2⟩, ⟨%d3, H3⟩, ⟨%d4, H4⟩⟩
  iapply (body_sound defs c E ext hext out a1 a2 a3 a4 x1 x2 x3 _)
  isplitl [H1]; · iexact H1
  isplitl [H2]; · iexact H2
  isplitl [H3]; · iexact H3
  isplitl [H4]; · iexists _; iexact H4
  iintro ⟨H1, H2, H3, H4⟩
  isplitl [HΦ]; · iexact HΦ
  isplitl [HO]; · iexact HO
  isplitl [H1]; · iexact H1
  isplitl [H2]; · iexact H2
  isplitl [H3]; · iexact H3
  iexact H4

end Cert.Heads
-- ==== Proof.Region.lean ====
/- A kernel region of @main whose pipeline leaves prescribed staging contents: its proof data, the buffer contents
   it leaves, and the region as a segment of the run. Everything is stated over any family of pipelines, so that both
   programs (the kernel as printed and its idealization) use the same text. -/
module

public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

noncomputable section

namespace Cert.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable {nD : ℕ} {τ : Topo} {sig : RefSig} {Λ₀ : Labels} {U : Type} [URA U]

local notation "𝕄" => MT nD τ sig Unit (Elt F) ℕ U ℕ

/-- Contents for every staging buffer of a pipeline, at every point of its grid. -/
abbrev Staged (F : FTy → Type) (cfg : Cfg sig Λ₀) : Type :=
  (w : Fin cfg.W) → Fin cfg.N → (cfg.win w).block.Idx → Elt F (cfg.win w).elt

/-- What a window's staging buffer holds after the fetch at point `t`, from the core's buffers `V`; where the fetch
    fills nothing the value is of no account. -/
def landed (cfg : Cfg sig Λ₀) (V : Valuation τ sig (Elt F)) : Staged F cfg := fun w t =>
  (cfg.win w).fill (cfg.grid.coords t) (fun _ => Classical.arbitrary _)
    (((cfg.win w).blk t).view.read (Elt F) (V (Proc.devRef .tc (Pipeline.arrRef cfg.spec w))))

/-- The proof data of a pipeline entered at the buffers `V` whose body leaves the staging buffers at `X`. -/
def data (U : Type) [URA U] (cfg : Cfg sig Λ₀) (X : Staged F cfg) (c : Dev nD) (V : Valuation τ sig (Elt F)) :
    Dat τ (Elt F) Unit ℕ U ℕ cfg c where
  A w := V (Proc.devRef .tc (Pipeline.arrRef cfg.spec w))
  after := X
  Φ _ := Pipeline.ΦA cfg.spec c
  q w := Pipeline.shareOf cfg.spec w
  owed _ := 0

/-- An input window fetched at a point without being cut holds what landed, whatever it held before. -/
theorem before_landed (cfg : Cfg sig Λ₀) (X : Staged F cfg) (c : Dev nD) (V : Valuation τ sig (Elt F))
    (w : Fin cfg.W) (t : Fin cfg.N) (hf : (cfg.win w).fetch t = true)
    (hc : ∀ a, (cfg.win w).clip (cfg.grid.coords t) a = none)
    (d : (cfg.win w).block.Idx → Elt F (cfg.win w).elt) :
    (data U cfg X c V).before w t d = landed cfg V w t := by
  unfold Dat.before
  rw [if_pos hf, (data U cfg X c V).fetched_of_clip_none w t hc d (fun _ => Classical.arbitrary _)]
  rfl

/-- The core's buffers when the region is left: the pipeline's arrays with its write-backs, the rest as entered. -/
def leave (U : Type) [URA U] (cfg : Cfg sig Λ₀) (X : Staged F cfg) (c : Dev nD) (V : Valuation τ sig (Elt F)) :
    Valuation τ sig (Elt F) :=
  Pipeline.withArrays cfg.spec c V fun w => (data U cfg X c V).arrAt w cfg.N

/-- A window's array, read when the region is left. -/
theorem leave_arr (cfg : Cfg sig Λ₀) (hs : Pipeline.SharedIn cfg.spec) (X : Staged F cfg) (c : Dev nD)
    (V : Valuation τ sig (Elt F)) (w : Fin cfg.W) :
    leave U cfg X c V (Proc.devRef .tc (Pipeline.arrRef cfg.spec w)) = (data U cfg X c V).arrAt w cfg.N :=
  (data U cfg X c V).withArrays_arrAt hs V (fun _ => rfl) w

/-- A buffer that is no window's array keeps its contents. -/
theorem leave_ne (cfg : Cfg sig Λ₀) (X : Staged F cfg) (c : Dev nD) (V : Valuation τ sig (Elt F)) (b : Ref sig .tc)
    (hb : ∀ w, Pipeline.arrRef cfg.spec w ≠ b) :
    leave U cfg X c V (Proc.devRef .tc b) = V (Proc.devRef .tc b) :=
  Pipeline.withArrays_of_ne cfg.spec c _ _ b hb

/-- A buffer that is no output window's array keeps its contents. -/
theorem leave_keeps (cfg : Cfg sig Λ₀) (hs : Pipeline.SharedIn cfg.spec) (X : Staged F cfg) (c : Dev nD)
    (V : Valuation τ sig (Elt F)) (b : Ref sig .tc)
    (hb : ∀ w : Fin cfg.W, Pipeline.arrRef cfg.spec w = b → (cfg.win w).isOut = false) :
    leave U cfg X c V (Proc.devRef .tc b) = V (Proc.devRef .tc b) := by
  by_cases hw : ∃ w : Fin cfg.W, Pipeline.arrRef cfg.spec w = b
  · obtain ⟨w, rfl⟩ := hw
    exact (leave_arr cfg hs X c V w).trans ((data U cfg X c V).arrAt_in w (hb w rfl) _)
  · exact leave_ne cfg X c V b fun w e => hw ⟨w, e⟩

variable {n : ℕ} (cfgs : Fin n → Cfg sig Λ₀)

/-- The pipelines of a program none of which prefetches a table. -/
abbrev pcs (F : FTy → Type) (cfgs : Fin n → Cfg sig Λ₀) : Fin n → Pipeline.PCfg sig Λ₀ (Elt F) := fun p => (cfgs p).toPCfg
/-- No table, so nothing to admit. -/
abbrev adm (F : FTy → Type) (cfgs : Fin n → Cfg sig Λ₀) : (p : Fin n) → (pcs F cfgs p).Adm := fun p => (cfgs p).toPCfg_adm

/-- Every pipeline's proof data, at the buffers its region is entered with. -/
def family (U : Type) [URA U] (X : (p : Fin n) → Valuation τ sig (Elt F) → Staged F (cfgs p)) (V : Fin n → Dev nD → Valuation τ sig (Elt F)) :
    (p : Fin n) → (c : Dev nD) → Dat τ (Elt F) Unit ℕ U ℕ (Pipeline.pin (pcs F cfgs) (adm F cfgs) p) c :=
  fun p c => data U (cfgs p) (X p (V p c)) c (V p c)

/-- What rides beside the buffers through the run: the generator register at some state, nothing owed. -/
abbrev R (F : FTy → Type) (τ : Topo) (sig : RefSig) (U : Type) [URA U] (c : Dev nD) : sProp (MT nD τ sig Unit (Elt F) ℕ U ℕ) :=
  iprop((∃ r, prngReg c r) ∗ ∃ W, owes (c : Thread nD τ) (0 : CellTallies nD τ sig Unit) W)

/-- No core owes another anything. -/
abbrev L : GSem nD τ sig → Finset Unit := fun _ => ∅
/-- Every level is 0. -/
abbrev lv : GSem nD τ sig → Unit → ℕ := fun _ _ => 0

/-- The state between two segments: every unscoped buffer at the contents `V`, and what rides along. -/
abbrev state (U : Type) [URA U] (V : Dev nD → Valuation τ sig (Elt F)) (c : Dev nD) :
    sProp (MT nD τ sig Unit (Elt F) ℕ U ℕ) :=
  iprop(StableHlo.held (c : Thread nD τ) (Pipeline.ucRefs τ sig) (V c) ∗ R F τ sig U c)

set_option backward.isDefEq.respectTransparency.types false in
/-- A region of the run, entered at the buffers `V p` and left at `leave`, from the body's obligation. -/
def seg (defs₀ : Defs nD τ sig (Elt F) Λ₀) (X : (p : Fin n) → Valuation τ sig (Elt F) → Staged F (cfgs p))
    (V : Fin n → Dev nD → Valuation τ sig (Elt F)) (p : Fin n)
    (win : Pipeline.WinFacts₀ (cfgs p).spec) (hs : Pipeline.SharedIn (cfgs p).spec)
    (hb : ∀ w : Fin (cfgs p).W, 0 < ((cfgs p).spec w).block.numel)
    (ha : ∀ w : Fin (cfgs p).W, ((cfgs p).spec w).arr.IsWhole)
    (hst : ∀ (w : Fin (cfgs p).W) (s : Fin ((cfgs p).spec w).nbuf), (((cfgs p).spec w).stage s).IsWhole)
    (hbody : ∀ c, BodyObligation (data U (cfgs p) (X p (V p c)) c (V p c)) defs₀ Variants.none () Set.univ)
    (V' : Dev nD → Valuation τ sig (Elt F)) (hV : ∀ c, V' c = leave U (cfgs p) (X p (V p c)) c (V p c)) :
    Pipeline.RegionSeg (pcs F cfgs) (adm F cfgs) (family cfgs U X V) () defs₀ Variants.none L lv p where
  win := win
  block_pos := hb
  stage_whole := hst
  K := PEmpty
  osem k := k.elim
  ho := Pipeline.OwnSemFacts.none _
  hbody c := (hbody c).loose
  hwaits := Pipeline.hwaits_of_owed_zero _ _ _ _ L lv p fun _ _ => rfl
  pre c := state U (V p) c
  post c := state U V' c
  X c := iprop(∃ r, prngReg c r)
  Y c := iprop(∃ r, prngReg c r)
  Z c := Pipeline.unscopedRest (Ix := Unit) (Name := ℕ) (U := U) (Lvl := ℕ) (cfgs p).spec c (fun b => V p c (Proc.devRef .tc b))
  hentry c := by
    rw [Pipeline.ownSems0_none]
    have hsplit := Pipeline.arrays_of_unscopedBufs_shared (p := p) (pcs F cfgs) (adm F cfgs) (family cfgs U X V) win hs ha c
      (fun _ _ => rfl) (fun b => V p c (Proc.devRef .tc b)) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family cfgs U X V p c).Φ 0 = Pipeline.ΦA (cfgs p).spec c from rfl]; unfold Pipeline.ΦA
    iintro ⟨Hp, -, Hr⟩
    isplitl [Hr]; · iexact Hr
    iexact Hp
  hout c := by
    rw [Pipeline.ownSems0_none, show (family cfgs U X V p c).Φ (Fin.last _) = Pipeline.ΦA (cfgs p).spec c from rfl]; unfold Pipeline.ΦA
    iintro ⟨Hr, Hp⟩
    isplitl [Hp]; · iexact Hp
    isplitr; · iempintro
    iexact Hr
  hexit c := by
    have hjoin := Pipeline.unscopedBufs_of_arrays_shared (p := p) (pcs F cfgs) (adm F cfgs) (Ix := Unit) (Name := ℕ) (U := U) (Lvl := ℕ)
      win hs ha c (family cfgs U X V) (fun _ _ => rfl)
      (fun b => V p c (Proc.devRef .tc b)) (fun b => V' c (Proc.devRef .tc b)) ((family cfgs U X V p c).arrAt · (cfgs p).N)
      (fun w => by rw [hV]; exact (leave_arr (cfgs p) hs _ c _ w).symm)
      (fun b hb => by rw [hV]; exact leave_ne (cfgs p) _ c _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The TensorCore's buffers in the memory `m`. -/
abbrev launched (m : (ℓ : Loc nD τ sig) → Buf (Elt F) ℓ) : Dev nD → Valuation τ sig (Elt F) := fun c b => m (c, b)

/-- A stretch of host operations as a segment: it runs from the buffers `V` to what the operations leave. -/
abbrev hseg (U : Type) [URA U] (defs₀ : Defs nD τ sig (Elt F) Λ₀) (ops : List (HloOp τ sig (Elt F))) (hsub : ops.Forall fun op => op.bufs ⊆ StableHlo.tcRefs τ sig)
    (hfresh : ops.Forall fun op => op.fresh = ∅) (V : Dev nD → Valuation τ sig (Elt F)) :
    Pipeline.HostSeg (Name := ℕ) (U := U) (pcs F cfgs) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) V (R F τ sig U)

/-- The last state, with what is owed set apart. -/
abbrev final (U : Type) [URA U] (V : Dev nD → Valuation τ sig (Elt F)) (c : Dev nD) : sProp (MT nD τ sig Unit (Elt F) ℕ U ℕ) :=
  iprop(StableHlo.held (c : Thread nD τ) (Pipeline.ucRefs τ sig) (V c) ∗ ∃ r, prngReg c r)

/-- A state between segments may be read as a last state. -/
theorem settle (V : Dev nD → Valuation τ sig (Elt F)) (c : Dev nD) :
    state U V c ⊢ iprop(final U V c ∗ ∃ W, owes (c : Thread nD τ) (0 : CellTallies nD τ sig Unit) W) := by
  iintro ⟨Hh, Hp, HO⟩
  isplitl [Hh Hp]
  · isplitl [Hh]; · iexact Hh
    iexact Hp
  iexact HO

open Idealize.ShloMosaic.Rounds in
set_option backward.isDefEq.respectTransparency.types false in
/-- THE RUN: a program that is a chain of such segments from the launched buffers to `V'` ends with every unscoped
    buffer at `V'` and the counters of its scoped cells at zero. -/
theorem run (hinj : Function.Injective (cellOf (nD := nD) (τ := τ) cfgs))
    (defs₀ : Defs nD τ sig (Elt F) Λ₀) (X : (p : Fin n) → Valuation τ sig (Elt F) → Staged F (cfgs p))
    (V : Fin n → Dev nD → Valuation τ sig (Elt F))
    (m : (ℓ : Loc nD τ sig) → Buf (Elt F) ℓ) (ρ : Dev nD → PrngReg)
    (main : Dev nD → Prog (TpuEff nD τ sig (Elt F) (Pipeline.Sig Λ₀ (Fin n) fun p => (pcs F cfgs p).Adm) .tc) PUnit)
    (segs : List (Pipeline.Seg (pcs F cfgs) (adm F cfgs) (family cfgs (UR sig nD τ) X V) () defs₀ Variants.none L lv))
    (hmain : ∀ c, main c = Pipeline.Seg.run segs) (hnd : (Pipeline.Seg.pipes segs).Nodup)
    (V' : Dev nD → Valuation τ sig (Elt F))
    (hch : Pipeline.Seg.Chains (state (UR sig nD τ) (launched m)) segs fun c =>
      iprop(final (UR sig nD τ) V' c ∗ ∃ W, owes (c : Thread nD τ) (0 : CellTallies nD τ sig Unit) W)) :
    θ_run (Pipeline.defs (pcs F cfgs) defs₀) (onTc (τ := τ) main) ⟨m, fun _ => 0, ρ⟩ fun r =>
      (∀ c : Dev nD, ∀ b ∈ Pipeline.ucRefs τ sig, r.2.mem (c, b) = V' c b)
        ∧ ∀ g : GSem nD τ sig, (g.1.2 ≠ .tc ∨ g.2.isScoped .tc = true) → r.2.sem g = 0 :=
  Pipeline.θ_run_regions_kit_sems (pcs F cfgs) (adm F cfgs) (family cfgs (UR sig nD τ) X V) () hinj emb₁ defs₀ Variants.none L lv m ρ main segs
    (fun c Q => by rw [hmain c]) hnd
    (O₀ := 0) (hL := fun _ _ => rfl) (G := fun _ => iprop(emp))
    (u₀ := initOf (Pipeline.cells cfgs hinj) (Pipeline.launchToks cfgs hinj))
    (hu₀ := by
      iintro Hu; imodintro
      isplitl [Hu]
      · iapply (show (ownU (initOf (Pipeline.cells cfgs hinj) (Pipeline.launchToks cfgs hinj)) : sProp (MT nD τ sig Unit (Elt F) ℕ (UR sig nD τ) ℕ))
            ⊢ BI.own (emb₁ (initOf (Pipeline.cells cfgs hinj) (Pipeline.launchToks cfgs hinj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := state (UR sig nD τ) (launched m))
    (Tₙ := final (UR sig nD τ) V') (hch := hch)
    (hinit := by
      refine Pipeline.initEach L lv fun c => ?_
      rw [show unscopedBufs c (fun b => m ((c : Thread nD τ).loc b)) = StableHlo.held (c : Thread nD τ) (Pipeline.ucRefs τ sig) (launched m c)
        from Pipeline.unscopedBufs_held c (launched m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V' c b)
    (hfin := fun c s' => by
      iintro ⟨⟨Hh, -⟩, HSI⟩
      unfold StableHlo.held
      imodintro
      iapply (pointsTo_read_all (Pipeline.ucRefs τ sig) (fun b => (((c : Thread nD τ)).1, b)) (V' c) s')
      isplitl [Hh] <;> iassumption)
    (hQ := fun s h hz => ⟨h, hz⟩)

end Cert.Region

end
-- ==== Proof.Chain.lean ====
/- The buffers along a program that is a chain of kernel regions with host operations between them: what they hold when
   each region is entered and when it is left, and which of them a stretch of the chain does not touch. -/
module

public import proofs.«01_k».proof.Proof.Region

@[expose] public section

noncomputable section

namespace Cert.Region

open Idealize.ShloMosaic Idealize.ShloMosaic.TcCoe
open Idealize.SL Idealize.SL.RA Idealize.SL.Sem
open Idealize.ShloMosaic.Pipeline (Dat Cfg Window)

variable {F : FTy → Type} [FloatOps F]
variable {nD : ℕ} {τ : Topo} {sig : RefSig} {Λ₀ : Labels} (U : Type) [URA U]
variable {n : ℕ} (cfgs : Fin n → Cfg sig Λ₀)
  (X : (p : Fin n) → Valuation τ sig (Elt F) → Staged F (cfgs p))
  (ops : Fin n → List (HloOp τ sig (Elt F)))
  (start : Dev nD → Valuation τ sig (Elt F))

/-- The buffers after the first `k` regions, each preceded by its host operations `ops`. -/
def leftAt : (k : ℕ) → k ≤ n → Dev nD → Valuation τ sig (Elt F)
  | 0, _ => start
  | k + 1, h => fun c =>
    leave U (cfgs ⟨k, h⟩) (X ⟨k, h⟩ (StableHlo.after (ops ⟨k, h⟩) (leftAt k (Nat.le_of_succ_le h) c))) c
      (StableHlo.after (ops ⟨k, h⟩) (leftAt k (Nat.le_of_succ_le h) c))

/-- The buffers when region `p` is entered. -/
def entered (p : Fin n) (c : Dev nD) : Valuation τ sig (Elt F) :=
  StableHlo.after (ops p) (leftAt U cfgs X ops start p.val p.isLt.le c)

/-- The buffers after region `p` are what the region leaves of those it is entered with. -/
theorem leftAt_succ (p : Fin n) (c : Dev nD) :
    leftAt U cfgs X ops start (p.val + 1) p.isLt c
      = leave U (cfgs p) (X p (entered U cfgs X ops start p c)) c (entered U cfgs X ops start p c) := rfl

/-- A buffer that regions `j` to `k` and the host operations before them do not write holds after them what it held
    before them. -/
theorem leftAt_keeps (hs : ∀ p, Pipeline.SharedIn (cfgs p).spec) (b : Ref sig .tc) (j : ℕ) (c : Dev nD) :
    ∀ (k : ℕ) (hk : k ≤ n) (hj : j ≤ k),
      (∀ p : Fin n, j ≤ p.val → p.val < k → ∀ w : Fin (cfgs p).W, Pipeline.arrRef (cfgs p).spec w = b → ((cfgs p).win w).isOut = false) →
      (∀ p : Fin n, j ≤ p.val → p.val < k → ∀ op ∈ ops p, Proc.devRef (τ := τ) .tc b ∉ op.writes) →
      leftAt U cfgs X ops start k hk c (Proc.devRef .tc b)
        = leftAt U cfgs X ops start j (hj.trans hk) c (Proc.devRef .tc b)
  | 0, _, hj, _, _ => by obtain rfl := Nat.le_zero.mp hj; rfl
  | k + 1, hk, hj, hw, ho => by
    rcases Nat.lt_or_ge k j with h | h
    · obtain rfl : j = k + 1 := by omega
      rfl
    · rw [leftAt_succ U cfgs X ops start ⟨k, hk⟩ c,
        leave_keeps (cfgs ⟨k, hk⟩) (hs ⟨k, hk⟩) _ c _ b (hw ⟨k, hk⟩ h (Nat.lt_succ_self k)), entered,
        StableHlo.after_of_forall_not_mem (ops ⟨k, hk⟩) _ (ho ⟨k, hk⟩ h (Nat.lt_succ_self k))]
      exact leftAt_keeps hs b j c k (Nat.le_of_succ_le hk) h
        (fun p h1 h2 => hw p h1 (Nat.lt_succ_of_lt h2)) fun p h1 h2 => ho p h1 (Nat.lt_succ_of_lt h2)

/-- The same up to the entry of region `p`, when the operations before it do not write the buffer either. -/
theorem entered_keeps (hs : ∀ p, Pipeline.SharedIn (cfgs p).spec) (b : Ref sig .tc) (j : ℕ) (c : Dev nD) (p : Fin n) (hj : j ≤ p.val)
    (hw : ∀ q : Fin n, j ≤ q.val → q.val < p.val → ∀ w : Fin (cfgs q).W, Pipeline.arrRef (cfgs q).spec w = b → ((cfgs q).win w).isOut = false)
    (ho : ∀ q : Fin n, j ≤ q.val → q.val ≤ p.val → ∀ op ∈ ops q, Proc.devRef (τ := τ) .tc b ∉ op.writes) :
    entered U cfgs X ops start p c (Proc.devRef .tc b)
      = leftAt U cfgs X ops start j (hj.trans p.isLt.le) c (Proc.devRef .tc b) := by
  rw [entered, StableHlo.after_of_forall_not_mem (ops p) _ (ho p hj le_rfl)]
  exact leftAt_keeps U cfgs X ops start hs b j c p.val p.isLt.le hj hw fun q h1 h2 => ho q h1 h2.le

end Cert.Region

end
-- ==== Proof.KernelIdealBodies.lean ====
/- The idealized kernel's bodies as printed are the programs of `Heads` and `Whole`: nothing is proved about them but that they are
   those programs, statement for statement. -/
module

public import proofs.«01_k».proof.Proof.Dense
public import proofs.«01_k».proof.Proof.Whole
public import proofs.«01_k».proof.Proof.Gen.KernelIdeal

@[expose] public section

set_option maxRecDepth 100000
set_option maxHeartbeats 4000000

noncomputable section

namespace Cert.KernelIdealBodies

open Idealize.ShloMosaic Idealize.SL.Sem Cert.Heads Cert.Dense Cert.KernelIdeal Cert.KernelIdeal.Gen

variable {F : FTy → Type} [FloatOps F] [Named F]

/-- The factor of the query columns, named. -/
abbrev scale : F .f32 := Named.named κ "scale" 0x3E96C740#32

/-- Call 0 is the projection to queries, keys and values. -/
theorem body0 (a0 : Memref sig .tc .vmem S2048x768 .f32) (h0) (a1 : Memref sig .tc .vmem S2304x768 .f32) (h1)
    (a2 : Memref sig .tc .vmem S2048x2304 .bf16) (h2) :
    cc0__qkv_kernel (F := F) a0 h0 a1 h1 a2 h2
      = Whole.body h_S2048x768 h_S2304x768 h_S2048x2304 (qkv scale) a0 a1 a2
          (View.stores_vmem h_S2048x2304 (h2.storeExact_slice rfl _ packedbf16_S2048x2304_S2048x2304_0_0) fun _ => rfl) := by
  sl_kernel_rfl

/-- Call 9 is the projection of the outputs. -/
theorem body9 (a0 : Memref sig .tc .vmem S2048x768 .f32) (h0) (a1 : Memref sig .tc .vmem S768x768 .f32) (h1)
    (a2 : Memref sig .tc .vmem S2048x768 .f32) (h2) :
    cc9__proj_kernel (F := F) a0 h0 a1 h1 a2 h2
      = Whole.body h_S2048x768 h_S768x768 h_S2048x768 proj a0 a1 a2 (View.stores_vmem_bits_univ h_S2048x768 rfl) := by
  sl_kernel_rfl

/-- Call 1 is the attention of row block 0. -/
theorem body1 (i : grid1.Coords) (a1 : Memref sig .tc .vmem S256x768 .bf16) (h1) (a2 : Memref sig .tc .vmem S256x768 .bf16) (h2)
    (a3 : Memref sig .tc .vmem S256x768 .bf16) (h3) (a4 : Memref sig .tc .vmem S256x768 .f32) (h4) :
    cc1__attn_kernel (F := F) i a1 h1 a2 h2 a3 h3 a4 h4 = Heads.body 256 (by decide) (firstOut geo0) a1 a2 a3 a4 heads := by
  sl_kernel_rfl

/-- Call 2 is the attention of row block 1. -/
theorem body2 (i : grid2.Coords) (a1 : Memref sig .tc .vmem S256x768 .bf16) (h1) (a2 : Memref sig .tc .vmem S512x768 .bf16) (h2)
    (a3 : Memref sig .tc .vmem S512x768 .bf16) (h3) (a4 : Memref sig .tc .vmem S256x768 .f32) (h4) :
    cc2__attn_kernel (F := F) i a1 h1 a2 h2 a3 h3 a4 h4 = Heads.body 512 (by decide) (laterOut geo1) a1 a2 a3 a4 heads := by
  sl_kernel_rfl

/-- Call 3 is the attention of row block 2. -/
theorem body3 (i : grid3.Coords) (a1 : Memref sig .tc .vmem S256x768 .bf16) (h1) (a2 : Memref sig .tc .vmem S768x768 .bf16) (h2)
    (a3 : Memref sig .tc .vmem S768x768 .bf16) (h3) (a4 : Memref sig .tc .vmem S256x768 .f32) (h4) :
    cc3__attn_kernel (F := F) i a1 h1 a2 h2 a3 h3 a4 h4 = Heads.body 768 (by decide) (laterOut geo2) a1 a2 a3 a4 heads := by
  sl_kernel_rfl

/-- Call 4 is the attention of row block 3. -/
theorem body4 (i : grid4.Coords) (a1 : Memref sig .tc .vmem S256x768 .bf16) (h1) (a2 : Memref sig .tc .vmem S1024x768 .bf16) (h2)
    (a3 : Memref sig .tc .vmem S1024x768 .bf16) (h3) (a4 : Memref sig .tc .vmem S256x768 .f32) (h4) :
    cc4__attn_kernel (F := F) i a1 h1 a2 h2 a3 h3 a4 h4 = Heads.body 1024 (by decide) (laterOut geo3) a1 a2 a3 a4 heads := by
  sl_kernel_rfl

/-- Call 5 is the attention of row block 4. -/
theorem body5 (i : grid5.Coords) (a1 : Memref sig .tc .vmem S256x768 .bf16) (h1) (a2 : Memref sig .tc .vmem S1280x768 .bf16) (h2)
    (a3 : Memref sig .tc .vmem S1280x768 .bf16) (h3) (a4 : Memref sig .tc .vmem S256x768 .f32) (h4) :
    cc5__attn_kernel (F := F) i a1 h1 a2 h2 a3 h3 a4 h4 = Heads.body 1280 (by decide) (laterOut geo4) a1 a2 a3 a4 heads := by
  sl_kernel_rfl

/-- Call 6 is the attention of row block 5. -/
theorem body6 (i : grid6.Coords) (a1 : Memref sig .tc .vmem S256x768 .bf16) (h1) (a2 : Memref sig .tc .vmem S1536x768 .bf16) (h2)
    (a3 : Memref sig .tc .vmem S1536x768 .bf16) (h3) (a4 : Memref sig .tc .vmem S256x768 .f32) (h4) :
    cc6__attn_kernel (F := F) i a1 h1 a2 h2 a3 h3 a4 h4 = Heads.body 1536 (by decide) (laterOut geo5) a1 a2 a3 a4 heads := by
  sl_kernel_rfl

/-- Call 7 is the attention of row block 6. -/
theorem body7 (i : grid7.Coords) (a1 : Memref sig .tc .vmem S256x768 .bf16) (h1) (a2 : Memref sig .tc .vmem S1792x768 .bf16) (h2)
    (a3 : Memref sig .tc .vmem S1792x768 .bf16) (h3) (a4 : Memref sig .tc .vmem S256x768 .f32) (h4) :
    cc7__attn_kernel (F := F) i a1 h1 a2 h2 a3 h3 a4 h4 = Heads.body 1792 (by decide) (laterOut geo6) a1 a2 a3 a4 heads := by
  sl_kernel_rfl

/-- Call 8 is the attention of row block 7. -/
theorem body8 (i : grid8.Coords) (a1 : Memref sig .tc .vmem S256x768 .bf16) (h1) (a2 : Memref sig .tc .vmem S2048x768 .bf16) (h2)
    (a3 : Memref sig .tc .vmem S2048x768 .bf16) (h3) (a4 : Memref sig .tc .vmem S256x768 .f32) (h4) :
    cc8__attn_kernel (F := F) i a1 h1 a2 h2 a3 h3 a4 h4 = Heads.body 2048 (by decide) (laterOut geo7) a1 a2 a3 a4 heads := by
  sl_kernel_rfl

end Cert.KernelIdealBodies

end
-- ==== Proof.KernelIdealRun.lean ====
/- The idealized kernel's run: what each call leaves in its staging buffers, that its body meets that, and the run of the whole
   program as the chain of its ten calls and three host operations. -/
module

public import proofs.«01_k».proof.Proof.KernelIdealBodies
public import proofs.«01_k».proof.Proof.HeadsRun
public import proofs.«01_k».proof.Proof.Chain
public import proofs.«01_k».proof.Proof.Gen.KernelIdeal.Launch
public import proofs.«01_k».proof.Proof.Gen.KernelIdeal.Points

@[expose] public section

set_option maxRecDepth 16384

noncomputable section

namespace Cert.KernelIdealRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Heads (block firstOut laterOut)
open Cert.Dense Cert.Region Cert.KernelIdealBodies Cert.KernelIdeal Cert.KernelIdeal.Gen

variable {F : FTy → Type} [FloatOps F] [Named F]

/-! ## What the calls leave staged -/

/-- Call 0 leaves its operands, and the queries, keys and values. -/
def X0 (V : Valuation τ sig (Elt F)) : Staged F cfg0 := fun w t => match w with
  | ⟨0, _⟩ => landed cfg0 V 0 t
  | ⟨1, _⟩ => landed cfg0 V 1 t
  | ⟨2, _⟩ => qkv scale (landed cfg0 V 0 t) (landed cfg0 V 1 t)

/-- Call 1 leaves its operands, and the attention of row block 0. -/
def X1 (V : Valuation τ sig (Elt F)) : Staged F cfg1 := fun w t => match w with
  | ⟨0, _⟩ => landed cfg1 V 0 t
  | ⟨1, _⟩ => landed cfg1 V 1 t
  | ⟨2, _⟩ => landed cfg1 V 2 t
  | ⟨3, _⟩ => block (firstOut geo0) (landed cfg1 V 0 t) (landed cfg1 V 1 t) (landed cfg1 V 2 t)

/-- Call 2 leaves its operands, and the attention of row block 1. -/
def X2 (V : Valuation τ sig (Elt F)) : Staged F cfg2 := fun w t => match w with
  | ⟨0, _⟩ => landed cfg2 V 0 t
  | ⟨1, _⟩ => landed cfg2 V 1 t
  | ⟨2, _⟩ => landed cfg2 V 2 t
  | ⟨3, _⟩ => block (laterOut geo1) (landed cfg2 V 0 t) (landed cfg2 V 1 t) (landed cfg2 V 2 t)

/-- Call 3 leaves its operands, and the attention of row block 2. -/
def X3 (V : Valuation τ sig (Elt F)) : Staged F cfg3 := fun w t => match w with
  | ⟨0, _⟩ => landed cfg3 V 0 t
  | ⟨1, _⟩ => landed cfg3 V 1 t
  | ⟨2, _⟩ => landed cfg3 V 2 t
  | ⟨3, _⟩ => block (laterOut geo2) (landed cfg3 V 0 t) (landed cfg3 V 1 t) (landed cfg3 V 2 t)

/-- Call 4 leaves its operands, and the attention of row block 3. -/
def X4 (V : Valuation τ sig (Elt F)) : Staged F cfg4 := fun w t => match w with
  | ⟨0, _⟩ => landed cfg4 V 0 t
  | ⟨1, _⟩ => landed cfg4 V 1 t
  | ⟨2, _⟩ => landed cfg4 V 2 t
  | ⟨3, _⟩ => block (laterOut geo3) (landed cfg4 V 0 t) (landed cfg4 V 1 t) (landed cfg4 V 2 t)

/-- Call 5 leaves its operands, and the attention of row block 4. -/
def X5 (V : Valuation τ sig (Elt F)) : Staged F cfg5 := fun w t => match w with
  | ⟨0, _⟩ => landed cfg5 V 0 t
  | ⟨1, _⟩ => landed cfg5 V 1 t
  | ⟨2, _⟩ => landed cfg5 V 2 t
  | ⟨3, _⟩ => block (laterOut geo4) (landed cfg5 V 0 t) (landed cfg5 V 1 t) (landed cfg5 V 2 t)

/-- Call 6 leaves its operands, and the attention of row block 5. -/
def X6 (V : Valuation τ sig (Elt F)) : Staged F cfg6 := fun w t => match w with
  | ⟨0, _⟩ => landed cfg6 V 0 t
  | ⟨1, _⟩ => landed cfg6 V 1 t
  | ⟨2, _⟩ => landed cfg6 V 2 t
  | ⟨3, _⟩ => block (laterOut geo5) (landed cfg6 V 0 t) (landed cfg6 V 1 t) (landed cfg6 V 2 t)

/-- Call 7 leaves its operands, and the attention of row block 6. -/
def X7 (V : Valuation τ sig (Elt F)) : Staged F cfg7 := fun w t => match w with
  | ⟨0, _⟩ => landed cfg7 V 0 t
  | ⟨1, _⟩ => landed cfg7 V 1 t
  | ⟨2, _⟩ => landed cfg7 V 2 t
  | ⟨3, _⟩ => block (laterOut geo6) (landed cfg7 V 0 t) (landed cfg7 V 1 t) (landed cfg7 V 2 t)

/-- Call 8 leaves its operands, and the attention of row block 7. -/
def X8 (V : Valuation τ sig (Elt F)) : Staged F cfg8 := fun w t => match w with
  | ⟨0, _⟩ => landed cfg8 V 0 t
  | ⟨1, _⟩ => landed cfg8 V 1 t
  | ⟨2, _⟩ => landed cfg8 V 2 t
  | ⟨3, _⟩ => block (laterOut geo7) (landed cfg8 V 0 t) (landed cfg8 V 1 t) (landed cfg8 V 2 t)

/-- Call 9 leaves its operands, and the outputs projected. -/
def X9 (V : Valuation τ sig (Elt F)) : Staged F cfg9 := fun w t => match w with
  | ⟨0, _⟩ => landed cfg9 V 0 t
  | ⟨1, _⟩ => landed cfg9 V 1 t
  | ⟨2, _⟩ => proj (landed cfg9 V 0 t) (landed cfg9 V 1 t)

/-- The ten together. -/
def X : (p : Fin 10) → Valuation τ sig (Elt F) → Staged F (cfgs p) := fun
  | ⟨0, _⟩ => X0 | ⟨1, _⟩ => X1 | ⟨2, _⟩ => X2 | ⟨3, _⟩ => X3 | ⟨4, _⟩ => X4 | ⟨5, _⟩ => X5 | ⟨6, _⟩ => X6 | ⟨7, _⟩ => X7 | ⟨8, _⟩ => X8
  | ⟨9, _⟩ => X9 | ⟨_ + 10, h⟩ => absurd h (Nat.not_lt.2 (Nat.le_add_left _ _))

/-- The host operations before each call. -/
def ops : Fin 10 → List (HloOp τ sig (Elt F)) := fun
  | ⟨0, _⟩ => hostOps0 | ⟨9, _⟩ => hostOps9 | _ => []

/-! ## The bodies meet it -/

/-- Call 0's body. -/
theorem obligation0 (c : Dev nD) (V : Valuation τ sig (Elt F)) :
    BodyObligation (data (UR sig nD τ) cfg0 (X0 V) c V) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact Whole.obligation _ _ _ (qkv scale) (st0_0 t) (st0_1 t) (st0_2 t) _ defs₀ c Set.univ (landed cfg0 V 0 t) (landed cfg0 V 1 t) _ _ _ _ _
    (before_landed cfg0 _ c V 0 t (fetch0_0 t) fun _ => rfl) (before_landed cfg0 _ c V 1 t (fetch0_1 t) fun _ => rfl) _
    (body0 _ _ _ _ _ _)

/-- Call 9's body. -/
theorem obligation9 (c : Dev nD) (V : Valuation τ sig (Elt F)) :
    BodyObligation (data (UR sig nD τ) cfg9 (X9 V) c V) (defs₀ (F := F)) Variants.none () Set.univ := fun t => by
  rw [bigSep_W9, bigSep_W9, show defs₀ (F := F) .tc cfg9.body (cfg9.bodyArgs t (cfg9.slots t)) = bodyAt9 t by unfold defs₀; rw [Defs.onTc_tc]]
  exact Whole.obligation _ _ _ (proj) (st9_0 t) (st9_1 t) (st9_2 t) _ defs₀ c Set.univ (landed cfg9 V 0 t) (landed cfg9 V 1 t) _ _ _ _ _
    (before_landed cfg9 _ c V 0 t (fetch9_0 t) fun _ => rfl) (before_landed cfg9 _ c V 1 t (fetch9_1 t) fun _ => rfl) _
    (body9 _ _ _ _ _ _)

/-- Call 1's body. -/
theorem obligation1 (c : Dev nD) (V : Valuation τ sig (Elt F)) :
    BodyObligation (data (UR sig nD τ) cfg1 (X1 V) c V) (defs₀ (F := F)) Variants.none () Set.univ := fun t => by
  rw [bigSep_W1, bigSep_W1, show defs₀ (F := F) .tc cfg1.body (cfg1.bodyArgs t (cfg1.slots t)) = bodyAt1 t by unfold defs₀; rw [Defs.onTc_tc]]
  obtain rfl := fin_N1 t
  exact Heads.obligation defs₀ c Set.univ 256 (by decide) (firstOut geo0) (st1_0 _) (st1_1 _) (st1_2 _) (st1_3 _) (landed cfg1 V 0 _) (landed cfg1 V 1 _) (landed cfg1 V 2 _) _ _ _ _ _ _
    (before_landed cfg1 _ c V 0 _ (fetch1_0 _) (by decide +kernel)) (before_landed cfg1 _ c V 1 _ (fetch1_1 _) (by decide +kernel))
    (before_landed cfg1 _ c V 2 _ (fetch1_2 _) (by decide +kernel)) _ (body1 _ _ _ _ _ _ _ _ _)

/-- Call 2's body. -/
theorem obligation2 (c : Dev nD) (V : Valuation τ sig (Elt F)) :
    BodyObligation (data (UR sig nD τ) cfg2 (X2 V) c V) (defs₀ (F := F)) Variants.none () Set.univ := fun t => by
  rw [bigSep_W2, bigSep_W2, show defs₀ (F := F) .tc cfg2.body (cfg2.bodyArgs t (cfg2.slots t)) = bodyAt2 t by unfold defs₀; rw [Defs.onTc_tc]]
  obtain rfl := fin_N2 t
  exact Heads.obligation defs₀ c Set.univ 512 (by decide) (laterOut geo1) (st2_0 _) (st2_1 _) (st2_2 _) (st2_3 _) (landed cfg2 V 0 _) (landed cfg2 V 1 _) (landed cfg2 V 2 _) _ _ _ _ _ _
    (before_landed cfg2 _ c V 0 _ (fetch2_0 _) (by decide +kernel)) (before_landed cfg2 _ c V 1 _ (fetch2_1 _) (by decide +kernel))
    (before_landed cfg2 _ c V 2 _ (fetch2_2 _) (by decide +kernel)) _ (body2 _ _ _ _ _ _ _ _ _)

/-- Call 3's body. -/
theorem obligation3 (c : Dev nD) (V : Valuation τ sig (Elt F)) :
    BodyObligation (data (UR sig nD τ) cfg3 (X3 V) c V) (defs₀ (F := F)) Variants.none () Set.univ := fun t => by
  rw [bigSep_W3, bigSep_W3, show defs₀ (F := F) .tc cfg3.body (cfg3.bodyArgs t (cfg3.slots t)) = bodyAt3 t by unfold defs₀; rw [Defs.onTc_tc]]
  obtain rfl := fin_N3 t
  exact Heads.obligation defs₀ c Set.univ 768 (by decide) (laterOut geo2) (st3_0 _) (st3_1 _) (st3_2 _) (st3_3 _) (landed cfg3 V 0 _) (landed cfg3 V 1 _) (landed cfg3 V 2 _) _ _ _ _ _ _
    (before_landed cfg3 _ c V 0 _ (fetch3_0 _) (by decide +kernel)) (before_landed cfg3 _ c V 1 _ (fetch3_1 _) (by decide +kernel))
    (before_landed cfg3 _ c V 2 _ (fetch3_2 _) (by decide +kernel)) _ (body3 _ _ _ _ _ _ _ _ _)

/-- Call 4's body. -/
theorem obligation4 (c : Dev nD) (V : Valuation τ sig (Elt F)) :
    BodyObligation (data (UR sig nD τ) cfg4 (X4 V) c V) (defs₀ (F := F)) Variants.none () Set.univ := fun t => by
  rw [bigSep_W4, bigSep_W4, show defs₀ (F := F) .tc cfg4.body (cfg4.bodyArgs t (cfg4.slots t)) = bodyAt4 t by unfold defs₀; rw [Defs.onTc_tc]]
  obtain rfl := fin_N4 t
  exact Heads.obligation defs₀ c Set.univ 1024 (by decide) (laterOut geo3) (st4_0 _) (st4_1 _) (st4_2 _) (st4_3 _) (landed cfg4 V 0 _) (landed cfg4 V 1 _) (landed cfg4 V 2 _) _ _ _ _ _ _
    (before_landed cfg4 _ c V 0 _ (fetch4_0 _) (by decide +kernel)) (before_landed cfg4 _ c V 1 _ (fetch4_1 _) (by decide +kernel))
    (before_landed cfg4 _ c V 2 _ (fetch4_2 _) (by decide +kernel)) _ (body4 _ _ _ _ _ _ _ _ _)

/-- Call 5's body. -/
theorem obligation5 (c : Dev nD) (V : Valuation τ sig (Elt F)) :
    BodyObligation (data (UR sig nD τ) cfg5 (X5 V) c V) (defs₀ (F := F)) Variants.none () Set.univ := fun t => by
  rw [bigSep_W5, bigSep_W5, show defs₀ (F := F) .tc cfg5.body (cfg5.bodyArgs t (cfg5.slots t)) = bodyAt5 t by unfold defs₀; rw [Defs.onTc_tc]]
  obtain rfl := fin_N5 t
  exact Heads.obligation defs₀ c Set.univ 1280 (by decide) (laterOut geo4) (st5_0 _) (st5_1 _) (st5_2 _) (st5_3 _) (landed cfg5 V 0 _) (landed cfg5 V 1 _) (landed cfg5 V 2 _) _ _ _ _ _ _
    (before_landed cfg5 _ c V 0 _ (fetch5_0 _) (by decide +kernel)) (before_landed cfg5 _ c V 1 _ (fetch5_1 _) (by decide +kernel))
    (before_landed cfg5 _ c V 2 _ (fetch5_2 _) (by decide +kernel)) _ (body5 _ _ _ _ _ _ _ _ _)

/-- Call 6's body. -/
theorem obligation6 (c : Dev nD) (V : Valuation τ sig (Elt F)) :
    BodyObligation (data (UR sig nD τ) cfg6 (X6 V) c V) (defs₀ (F := F)) Variants.none () Set.univ := fun t => by
  rw [bigSep_W6, bigSep_W6, show defs₀ (F := F) .tc cfg6.body (cfg6.bodyArgs t (cfg6.slots t)) = bodyAt6 t by unfold defs₀; rw [Defs.onTc_tc]]
  obtain rfl := fin_N6 t
  exact Heads.obligation defs₀ c Set.univ 1536 (by decide) (laterOut geo5) (st6_0 _) (st6_1 _) (st6_2 _) (st6_3 _) (landed cfg6 V 0 _) (landed cfg6 V 1 _) (landed cfg6 V 2 _) _ _ _ _ _ _
    (before_landed cfg6 _ c V 0 _ (fetch6_0 _) (by decide +kernel)) (before_landed cfg6 _ c V 1 _ (fetch6_1 _) (by decide +kernel))
    (before_landed cfg6 _ c V 2 _ (fetch6_2 _) (by decide +kernel)) _ (body6 _ _ _ _ _ _ _ _ _)

/-- Call 7's body. -/
theorem obligation7 (c : Dev nD) (V : Valuation τ sig (Elt F)) :
    BodyObligation (data (UR sig nD τ) cfg7 (X7 V) c V) (defs₀ (F := F)) Variants.none () Set.univ := fun t => by
  rw [bigSep_W7, bigSep_W7, show defs₀ (F := F) .tc cfg7.body (cfg7.bodyArgs t (cfg7.slots t)) = bodyAt7 t by unfold defs₀; rw [Defs.onTc_tc]]
  obtain rfl := fin_N7 t
  exact Heads.obligation defs₀ c Set.univ 1792 (by decide) (laterOut geo6) (st7_0 _) (st7_1 _) (st7_2 _) (st7_3 _) (landed cfg7 V 0 _) (landed cfg7 V 1 _) (landed cfg7 V 2 _) _ _ _ _ _ _
    (before_landed cfg7 _ c V 0 _ (fetch7_0 _) (by decide +kernel)) (before_landed cfg7 _ c V 1 _ (fetch7_1 _) (by decide +kernel))
    (before_landed cfg7 _ c V 2 _ (fetch7_2 _) (by decide +kernel)) _ (body7 _ _ _ _ _ _ _ _ _)

/-- Call 8's body. -/
theorem obligation8 (c : Dev nD) (V : Valuation τ sig (Elt F)) :
    BodyObligation (data (UR sig nD τ) cfg8 (X8 V) c V) (defs₀ (F := F)) Variants.none () Set.univ := fun t => by
  rw [bigSep_W8, bigSep_W8, show defs₀ (F := F) .tc cfg8.body (cfg8.bodyArgs t (cfg8.slots t)) = bodyAt8 t by unfold defs₀; rw [Defs.onTc_tc]]
  obtain rfl := fin_N8 t
  exact Heads.obligation defs₀ c Set.univ 2048 (by decide) (laterOut geo7) (st8_0 _) (st8_1 _) (st8_2 _) (st8_3 _) (landed cfg8 V 0 _) (landed cfg8 V 1 _) (landed cfg8 V 2 _) _ _ _ _ _ _
    (before_landed cfg8 _ c V 0 _ (fetch8_0 _) (by decide +kernel)) (before_landed cfg8 _ c V 1 _ (fetch8_1 _) (by decide +kernel))
    (before_landed cfg8 _ c V 2 _ (fetch8_2 _) (by decide +kernel)) _ (body8 _ _ _ _ _ _ _ _ _)

/-! ## The run -/

/-- No host operation draws a fresh buffer. -/
theorem fresh0 : (hostOps0 : List (HloOp τ sig (Elt F))).Forall fun op => op.fresh = ∅ := by simp only [List.Forall]; repeat' constructor
/-- No host operation draws a fresh buffer. -/
theorem fresh9 : (hostOps9 : List (HloOp τ sig (Elt F))).Forall fun op => op.fresh = ∅ := by simp only [List.Forall]; repeat' constructor
/-- No host operation draws a fresh buffer. -/
theorem fresh10 : (hostOps10 : List (HloOp τ sig (Elt F))).Forall fun op => op.fresh = ∅ := by simp only [List.Forall]; repeat' constructor

variable (m : (ℓ : Loc nD τ sig) → Buf (Elt F) ℓ) (ρ : Dev nD → PrngReg)

/-- The buffers after `k` calls. -/
abbrev left (k : ℕ) (h : k ≤ 10) : Dev nD → Valuation τ sig (Elt F) := leftAt (UR sig nD τ) cfgs X ops (launched m) k h
/-- The buffers when call `p` is entered. -/
abbrev enter : Fin 10 → Dev nD → Valuation τ sig (Elt F) := entered (UR sig nD τ) cfgs X ops (launched m)
/-- The buffers at the end. -/
abbrev last (c : Dev nD) : Valuation τ sig (Elt F) := StableHlo.after hostOps10 (left m 10 le_rfl c)

/-- A call as a segment. -/
abbrev segOf (p : Fin 10) (k : Pipeline.LaunchFacts₀ (nD := nD) (τ := τ) cfgs p)
    (ob : ∀ (c : Dev nD) (V : Valuation τ sig (Elt F)), BodyObligation (data (UR sig nD τ) (cfgs p) (X p V) c V) (defs₀ (F := F)) Variants.none () Set.univ) :
    Pipeline.RegionSeg (pcs F cfgs) (adm F cfgs) (family cfgs (UR sig nD τ) X (enter m)) () defs₀ Variants.none L lv p :=
  seg cfgs defs₀ X (enter m) p k.win k.sharedIn k.block_pos k.arr_whole k.stage_whole (fun c => ob c _) (left m (p.val + 1) p.isLt) fun _ => rfl

/-- The program's segments. -/
def segs : List (Pipeline.Seg (pcs F cfgs) (adm F cfgs) (family cfgs (UR sig nD τ) X (enter m)) () defs₀ Variants.none L lv) :=
  [.host (hseg cfgs (UR sig nD τ) defs₀ hostOps0 hostOps0_sub fresh0 (launched m)),
   .region (segOf m 0 launch0.to₀ obligation0), .region (segOf m 1 launch₀1 obligation1), .region (segOf m 2 launch₀2 obligation2),
   .region (segOf m 3 launch₀3 obligation3), .region (segOf m 4 launch₀4 obligation4), .region (segOf m 5 launch₀5 obligation5),
   .region (segOf m 6 launch₀6 obligation6), .region (segOf m 7 launch₀7 obligation7), .region (segOf m 8 launch₀8 obligation8),
   .host (hseg cfgs (UR sig nD τ) defs₀ hostOps9 hostOps9_sub fresh9 (left m 9 (by decide))),
   .region (segOf m 9 launch9.to₀ obligation9),
   .host (hseg cfgs (UR sig nD τ) defs₀ hostOps10 hostOps10_sub fresh10 (left m 10 le_rfl))]

/-- The whole program runs from any memory; every unscoped buffer ends at `last`, every scoped counter at zero. -/
theorem run : θ_run defs (onTc (τ := τ) (main (F := F))) ⟨m, fun _ => 0, ρ⟩ fun r =>
    (∀ c : Dev nD, ∀ b ∈ Pipeline.ucRefs τ sig, r.2.mem (c, b) = last m c b)
      ∧ ∀ g : GSem nD τ sig, (g.1.2 ≠ .tc ∨ g.2.isScoped .tc = true) → r.2.sem g = 0 :=
  Region.run cfgs cellOf_inj defs₀ X (enter m) m ρ main (segs m)
    (fun c => main_segs _ _ _ _ _ _ _ _ _ _ _ _ _ _ _ _ _ _ _ rfl rfl rfl c)
    (by simp only [segs, Pipeline.Seg.pipes_host, Pipeline.Seg.pipes_region, Pipeline.Seg.pipes_nil]; decide)
    (last m)
    ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun c => Region.settle (last m) c⟩

/-! ## What stays -/

/-- Each call's arrays can be shared. -/
theorem sharedIn : ∀ p : Fin 10, Pipeline.SharedIn (cfgs p).spec := fun
  | ⟨0, _⟩ => launch0.to₀.sharedIn | ⟨1, _⟩ => launch₀1.sharedIn | ⟨2, _⟩ => launch₀2.sharedIn | ⟨3, _⟩ => launch₀3.sharedIn
  | ⟨4, _⟩ => launch₀4.sharedIn | ⟨5, _⟩ => launch₀5.sharedIn | ⟨6, _⟩ => launch₀6.sharedIn | ⟨7, _⟩ => launch₀7.sharedIn
  | ⟨8, _⟩ => launch₀8.sharedIn | ⟨9, _⟩ => launch9.to₀.sharedIn | ⟨_ + 10, h⟩ => absurd h (Nat.not_lt.2 (Nat.le_add_left _ _))

/-- What each call and its host operations write. -/
abbrev written : Fin 10 → List (Ref sig .tc) :=
  ![[main_v0, main_v1], [main_v2], [main_v3], [main_v4], [main_v5], [main_v6], [main_v7], [main_v8], [main_v9], [main_v10, main_v11]]

/-- An output window's array is among what its call writes. -/
theorem outs : ∀ p : Fin 10, ∀ w : Fin (cfgs p).W, ((cfgs p).win w).isOut = true → Pipeline.arrRef (cfgs p).spec w ∈ written p := by
  decide +kernel

/-- A host operation before a call writes only what is listed for the call. -/
theorem ops_writes (b : Ref sig .tc) : ∀ p : Fin 10, b ∉ written p → ∀ op ∈ (ops p : List (HloOp τ sig (Elt F))), Proc.devRef (τ := τ) .tc b ∉ op.writes := by
  have key : ∀ (y : Ref sig .tc), b ≠ y → Proc.devRef (τ := τ) .tc b ∉ ({Proc.devRef .tc y} : Finset (DevRef τ sig)) :=
    fun y hne h => hne (Proc.devRef_injective _ (Finset.mem_singleton.mp h))
  intro p hb op hop
  fin_cases p
  · obtain rfl := List.mem_singleton.mp hop
    exact key main_v0 fun e => hb (e ▸ by decide)
  all_goals first
    | exact absurd hop List.not_mem_nil
    | (obtain rfl := List.mem_singleton.mp hop
       exact key main_v10 fun e => hb (e ▸ by decide))

/-- A buffer not written by calls `j` to `k` stays. -/
theorem left_keeps (b : Ref sig .tc) (j k : ℕ) (hk : k ≤ 10) (hj : j ≤ k) (c : Dev nD)
    (hb : ∀ p : Fin 10, j ≤ p.val → p.val < k → b ∉ written p) :
    left m k hk c (Proc.devRef .tc b) = left m j (hj.trans hk) c (Proc.devRef .tc b) :=
  leftAt_keeps _ cfgs X ops (launched m) sharedIn b j c k hk hj
    (fun p h1 h2 w e => by
      rcases hw : ((cfgs p).win w).isOut with _ | _
      · rfl
      · exact absurd (e ▸ outs p w hw) (hb p h1 h2))
    fun p h1 h2 => ops_writes b p (hb p h1 h2)

/-- A buffer no call and no operation writes ends as it began. -/
theorem last_keeps (b : Ref sig .tc) (hb : ∀ p : Fin 10, b ∉ written p) (h12 : b ≠ main_v12) (c : Dev nD) :
    last m c (Proc.devRef .tc b) = m (c, Proc.devRef .tc b) :=
  (StableHlo.after_of_forall_not_mem hostOps10 _ fun op hop h => by
    obtain rfl := List.mem_singleton.mp hop
    exact h12 (Proc.devRef_injective _ (Finset.mem_singleton.mp h))).trans
    (left_keeps m b 0 10 le_rfl (by decide) c fun p _ _ => hb p)

/-- An unscoped buffer is among those the run accounts for. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every counter is scoped. -/
theorem no_unscoped : ∀ sm : SemLoc sig, sm.isScoped .tc = true := by decide

/-- The program runs, its arguments end unchanged, and every counter ends at zero. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (run m ρ).mono fun r h =>
    ⟨fun c => ⟨(h.1 c _ (mem_uc main_arg0 (by decide))).trans (last_keeps m main_arg0 (by decide) (by decide) c),
      (h.1 c _ (mem_uc main_arg1 (by decide))).trans (last_keeps m main_arg1 (by decide) (by decide) c),
      (h.1 c _ (mem_uc main_arg2 (by decide))).trans (last_keeps m main_arg2 (by decide) (by decide) c)⟩,
      funext fun g => h.2 g (.inr (no_unscoped g.2))⟩

end Cert.KernelIdealRun

end
-- ==== Proof.Frames.lean ====
/- The claims that say nothing of values: each program runs, leaves its arguments and its counters, and the idealized
   kernel is the kernel with one constant named. -/
module

public import proofs.«01_k».proof.Defs
public import proofs.«01_k».proof.Proof.KernelRun
public import proofs.«01_k».proof.Proof.KernelIdealRun
public import proofs.«01_k».proof.Proof.Gen.ReferenceIdeal.Run
public import Idealize.ShloMosaic.Lib.Quiescent

@[expose] public section

noncomputable section

namespace Cert.Frames

open Idealize.ShloMosaic Idealize.ShloMosaic.TcCoe Idealize.SL.Sem

/-- The kernel runs and leaves its arguments and counters. -/
theorem kernel : Cert.quiescent_Kernel := fun m ρ _ => KernelRun.frame m ρ

/-- The idealized kernel does. -/
theorem kernelIdeal : Cert.quiescent_KernelIdeal := fun m ρ _ => KernelIdealRun.frame m ρ

/-- The reference does; it has no counters. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one constant named is the value the name stands for. -/
theorem preserves : Cert.preserves_Kernel_KernelIdeal :=
  IdealRules.named_const.statement Cert.KernelIdeal.κ "scale" .f32 0x3E96C740#32 (((Real.log 2)⁻¹ * (Real.sqrt 24)⁻¹ : ℝ) : EReal) rfl

end Cert.Frames

end
-- ==== Proof.Consts.lean ====
/- The constants of the two programs as extended reals. -/
module

public import Idealize.ShloMosaic.PureOps.Ideal
public import Mathlib.Analysis.SpecialFunctions.Pow.Real

@[expose] public section

noncomputable section

namespace Cert.Consts

open Idealize.ShloMosaic

/-- Minus infinity. -/
theorem negInf : Ideal.ofBits .f32 0xFF800000#32 = ⊥ := by simp [Ideal.ofBits, Ideal.ieee, -EReal.coe_mul]
/-- Infinity. -/
theorem posInf : Ideal.ofBits .f32 0x7F800000#32 = ⊤ := by simp [Ideal.ofBits, Ideal.ieee, -EReal.coe_mul]
/-- Twenty-four. -/
theorem twentyFour : Ideal.ofBits .f32 0x41C00000#32 = ((24 : ℝ) : EReal) := by
  simp [Ideal.ofBits, Ideal.ieee, -EReal.coe_mul]; norm_num

end Cert.Consts

end
-- ==== Proof.Mix.lean ====
/- The mathematics of one row of causal attention over the reals: a mixture of the values with weights proportional to
   the exponentials of the scores, over the keys up to the row. The two programs compute it from differently shifted
   exponents and differently cut sums; the mixture does not depend on the shift, and the sums are regrouped here. -/
module

public import Mathlib.Analysis.SpecialFunctions.Pow.Real
public import Mathlib.Data.EReal.Operations
public import Idealize.ShloMosaic.PureOps.Ideal

@[expose] public section

noncomputable section

namespace Cert.Mix

open Idealize.ShloMosaic
open scoped BigOperators

/-- Row `R`'s mixture: scores `a`, values `v`, keys `0` to `R`. -/
def mix (R : ℕ) (a v : ℕ → ℝ) : ℝ :=
  (∑ c ∈ Finset.range (R + 1), Real.exp (a c) * v c) / ∑ c ∈ Finset.range (R + 1), Real.exp (a c)

/-- The score of row `r` with key `c` in head `h`, of queries, keys and values side by side in `Y`. -/
def headScore (Y : ℕ → ℕ → ℝ) (h r c : ℕ) : ℝ := (∑ d : Fin 24, Y r (h * 24 + d.val) * Y c (768 + (h * 24 + d.val))) * (Real.sqrt 24)⁻¹

/-- The attention of row `r` in column `c`: the mixture of the values of the column's head. -/
def headMix (Y : ℕ → ℕ → ℝ) (r c : ℕ) : ℝ := mix r (headScore Y (c / 24) r) fun j => Y j (1536 + (c / 24 * 24 + c % 24))

/-- Shifting every score leaves the mixture. -/
theorem mix_shift (R : ℕ) (a v : ℕ → ℝ) (m : ℝ) :
    (∑ c ∈ Finset.range (R + 1), Real.exp (a c - m) * v c) / (∑ c ∈ Finset.range (R + 1), Real.exp (a c - m)) = mix R a v := by
  have h : ∀ c, Real.exp (a c - m) = Real.exp (-m) * Real.exp (a c) := fun c => by rw [← Real.exp_add]; congr 1; ring
  simp only [h, mul_assoc, ← Finset.mul_sum]
  exact mul_div_mul_left _ _ (Real.exp_pos _).ne'

/-- The sum of a row's weights is positive. -/
theorem weights_pos (R : ℕ) (a : ℕ → ℝ) : 0 < ∑ c ∈ Finset.range (R + 1), Real.exp (a c) :=
  Finset.sum_pos (fun _ _ => Real.exp_pos _) ⟨0, by simp⟩

/-- A sum over all keys of terms that vanish after the row is the sum up to the row. -/
theorem sum_upto (N R : ℕ) (h : R < N) (f : ℕ → ℝ) :
    ∑ c : Fin N, (if c.val ≤ R then f c.val else 0) = ∑ c ∈ Finset.range (R + 1), f c := by
  rw [Finset.sum_range fun c => f c, Finset.sum_fin_eq_sum_range, ← Finset.sum_range fun c => f c]
  refine (Finset.sum_subset (Finset.range_subset_range.mpr h) ?_).symm.trans (Finset.sum_congr rfl ?_)
  · intro c hc hn
    have h1 := Finset.mem_range.mp hc
    have h2 : ¬ c ≤ R := fun e => hn (Finset.mem_range.mpr (by omega))
    simp [h2]
  · intro c hc
    have h1 : c ≤ R := by have := Finset.mem_range.mp hc; omega
    have h2 : c < N := by omega
    simp [h1, h2]

/-- The earlier keys and the diagonal block's visible keys are the keys up to the row. -/
theorem sum_blocks (n i : ℕ) (hi : i < 256) (f : ℕ → ℝ) :
    (∑ j : Fin n, f j.val) + ∑ b : Fin 256, (if b.val ≤ i then f (n + b.val) else 0) = ∑ c ∈ Finset.range (n + i + 1), f c := by
  rw [sum_upto 256 i hi fun b => f (n + b), ← Finset.sum_range fun c => f c, show n + i + 1 = n + (i + 1) from rfl, Finset.sum_range_add f n (i + 1)]

/-! ## The largest score is a real number -/

/-- A maximum of entries none of which is infinitely large is not. -/
theorem fold_ne_top {ι : Type} (s : Finset ι) (f : ι → EReal) (h : ∀ i, f i ≠ ⊤) : s.fold max ⊥ f ≠ ⊤ :=
  ne_of_lt (Finset.fold_max_lt _ |>.mpr ⟨bot_lt_top, fun i _ => lt_top_iff_ne_top.mpr (h i)⟩)

/-- A maximum with a real entry is not minus infinity. -/
theorem fold_ne_bot {ι : Type} [Fintype ι] (f : ι → EReal) (i : ι) (h : f i ≠ ⊥) : (Finset.univ : Finset ι).fold max ⊥ f ≠ ⊥ :=
  fun e => h (le_bot_iff.mp (e ▸ (Finset.le_fold_max _).mpr (.inr ⟨i, Finset.mem_univ _, le_rfl⟩)))

/-- The larger of two of which the second is real and the first not infinitely large. -/
theorem max_real (x y : EReal) (hx : x ≠ ⊤) (hy : y ≠ ⊤) (hb : y ≠ ⊥) : ∃ m : ℝ, max x y = (m : EReal) := by
  have h1 : max x y ≠ ⊤ := by rcases max_choice x y with h | h <;> rwa [h]
  have h2 : max x y ≠ ⊥ := fun e => hb (le_bot_iff.mp (e ▸ le_max_right x y))
  exact ⟨(max x y).toReal, (EReal.coe_toReal h1 h2).symm⟩

/-! ## Sums of real numbers among the extended ones -/

/-- The sum of reals is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Two to the power of a score in units of `log 2`, less a bound, is an exponential. -/
theorem exp2_shift (a m : ℝ) : Ideal.exp2 (((a * (Real.log 2)⁻¹ : ℝ) : EReal) - (m : EReal)) = ((Real.exp (a - m * Real.log 2) : ℝ) : EReal) := by
  have hl : Real.log 2 ≠ 0 := (Real.log_pos (by norm_num)).ne'
  rw [← EReal.coe_sub, Ideal.exp2_coe]
  congr 1
  show (2 : ℝ) ^ (a * (Real.log 2)⁻¹ - m) = _
  rw [Real.rpow_def_of_pos (by norm_num)]
  congr 1
  field_simp

/-- A hidden key's weight is zero, in base two and in base e. -/
theorem exp2_hidden (m : ℝ) : Ideal.exp2 ((⊥ : EReal) - (m : EReal)) = 0 := by rw [EReal.bot_sub]; rfl
/-- A hidden key's weight is zero. -/
theorem exp_hidden (m : ℝ) : Ideal.exp ((⊥ : EReal) - (m : EReal)) = 0 := by rw [EReal.bot_sub]; rfl

end Cert.Mix

end
-- ==== Proof.Finite.lean ====
/- What the precondition says: every entry of the input and of the joint projection's matrix is a real number. Then the
   queries, keys and values are real too. -/
module

public import proofs.«01_k».proof.Pre_finite_inputs
public import proofs.«01_k».proof.Proof.Consts
public import proofs.«01_k».proof.Proof.Mix
public import Idealize.ShloMosaic.Lib.Pointwise

@[expose] public section

noncomputable section

namespace Cert.Finite

open Idealize.ShloMosaic Cert.Mix
open scoped BigOperators

/-- An extended real whose size is below infinity is a real number. -/
theorem real_of_test (a : EReal) (h : Ideal.cmp .olt (max a (-a)) (Ideal.ofBits .f32 0x7F800000#32) = 1#1) : ∃ t : ℝ, a = (t : EReal) := by
  rw [Consts.posInf] at h
  have h' : max a (-a) < ⊤ := by
    by_contra hn
    simp [Ideal.cmp, hn] at h
  refine ⟨a.toReal, (EReal.coe_toReal ?_ ?_).symm⟩
  · rintro rfl
    simp at h'
  · rintro rfl
    simp at h'

/-- The entries the precondition tests are real. -/
theorem entries [Cert.Pre_finite_inputs.Facts] (x : FVec Ideal Cert.Pre_finite_inputs.S1x2048x768 .f32) (w : FVec Ideal Cert.Pre_finite_inputs.S2304x768 .f32)
    (p : FVec Ideal Cert.Pre_finite_inputs.S768x768 .f32)
    (h : (Cert.Pre_finite_inputs.fn x w p).1 = (fun _ => 1#1) ∧ (Cert.Pre_finite_inputs.fn x w p).2 = (fun _ => 1#1)) :
    (∀ i, ∃ t : ℝ, x i = (t : EReal)) ∧ ∀ i, ∃ t : ℝ, w i = (t : EReal) :=
  ⟨fun i => real_of_test _ (congrFun h.1 i), fun i => real_of_test _ (congrFun h.2 i)⟩

/-- The rows of real matrices multiplied are real numbers. -/
theorem products_real (x : FVec Ideal Cert.Pre_finite_inputs.S1x2048x768 .f32) (w : FVec Ideal Cert.Pre_finite_inputs.S2304x768 .f32)
    (hx : ∀ i, ∃ t : ℝ, x i = (t : EReal)) (hw : ∀ i, ∃ t : ℝ, w i = (t : EReal)) :
    ∃ Y : ℕ → ℕ → ℝ, ∀ (r : Fin 2048) (j : Fin 2304), ∑ k : Fin 768, x (ix3 0 r k) * w (ix2 j k) = ((Y r.val j.val : ℝ) : EReal) := by
  choose X hX using hx
  choose W hW using hw
  refine ⟨fun r j => if h : r < 2048 ∧ j < 2304 then ∑ k : Fin 768, X (ix3 0 ⟨r, h.1⟩ k) * W (ix2 ⟨j, h.2⟩ k) else 0, fun r j => ?_⟩
  beta_reduce
  rw [dif_pos ⟨r.isLt, j.isLt⟩, ← coe_sum]
  exact Finset.sum_congr rfl fun k _ => by rw [hX, hW, ← EReal.coe_mul]

end Cert.Finite

end
-- ==== Proof.HeadValue.lean ====
/- What one attention head computes at the ideal values, entry by entry, and that this is the row's mixture (Mix.lean). -/
module

public import proofs.«01_k».proof.Proof.Heads
public import proofs.«01_k».proof.Proof.Mix
public import proofs.«01_k».proof.Proof.Consts
public import Idealize.ShloMosaic.Lib.Pointwise
public import Idealize.ShloMosaic.Lib.MatmulPlain
public import Idealize.ShloMosaic.Lib.WordCmp
public import Idealize.ShloMosaic.Lib.Pipeline.Value

@[expose] public section

set_option maxRecDepth 16384

noncomputable section

namespace Cert.HeadValue

open Idealize.ShloMosaic Idealize.ShloMosaic.TcCoe Cert.Heads Cert.Mix
open scoped BigOperators

/-! ## The operations entry by entry -/

/-- A product of rows. -/
theorem qk_apply (n : ℕ) (wf) (q : FVec Ideal (mat 256 24) .bf16) (k : FVec Ideal (mat n 24) .bf16) (i : Fin 256) (j : Fin n) :
    matmul (qkDot n wf) none q k (constant (mat 256 n) .f32 0x00000000#32) (ix2 i j) = ∑ d : Fin 24, q (ix2 i d) * k (ix2 j d) := by
  refine (Ideal.matmul_transposedRhs_apply (M := 256) (K := 24) (N := n) none q k (constant (mat 256 n) .f32 0x00000000#32) i j).trans ?_
  pointwise [← ix2_eq_valueIdx]

/-- Weights times value rows. -/
theorem pv_apply (n : ℕ) (wf) (w : FVec Ideal (mat 256 n) .bf16) (v : FVec Ideal (mat n 25) .bf16) (i : Fin 256) (d : Fin 25) :
    matmul (pvDot n wf) none w v (constant (mat 256 25) .f32 0x00000000#32) (ix2 i d) = ∑ j : Fin n, w (ix2 i j) * v (ix2 j d) := by
  refine (Ideal.matmul_plain_apply (M := 256) (K := n) (N := 25) none w v (constant (mat 256 25) .f32 0x00000000#32) i d).trans ?_
  pointwise [← ix2_eq_valueIdx]

/-- Rows of a matrix. -/
theorem rows_apply {α : Type} (off n m w : ℕ) (x : (mat m w).Idx → α) (h : (mat m w).Slices ![off, 0] (mat n w)) (j : Fin n) (d : Fin w) (hj : off + j.val < m) :
    extractStridedSlice (mat n w) ![off, 0] x h (ix2 j d) = x (ix2 ⟨off + j.val, hj⟩ d) :=
  congrArg x (funext fun a => Fin.ext (match a with | ⟨0, _⟩ => rfl | ⟨1, _⟩ => Nat.zero_add _))

/-- The comparison of a key's place with a row's, both below 256. -/
theorem sees_block (i j : Fin 256) : IntOp.cmpi CmpIPredicate.sle (BitVec.ofNat 32 j.val) (BitVec.ofNat 32 i.val) = if j.val ≤ i.val then 1#1 else 0#1 := by
  word_cmp
  by_cases h : j.val ≤ i.val <;> simp [h]

section Row

variable {main ext : ℕ}

/-- The block's keys follow the earlier ones. -/
theorem lt_ext (g : Geo main ext) (b : Fin 256) : main + b.val < ext := by
  have h : main + 256 ≤ ext := g.lastK.2 0
  omega
/-- The earlier keys are among the keys. -/
theorem main_lt_ext (g : Geo main ext) (j : Fin main) : 0 + j.val < ext := by
  have h : 0 + main ≤ ext := g.firstK.2 0
  omega

variable (g : Geo main ext) (q : FVec Ideal (mat 256 24) .bf16) (k v : FVec Ideal (mat ext 24) .bf16) (i : Fin 256)
  (Q : ℕ → ℝ) (K V : ℕ → ℕ → ℝ)

/-- The row's score with key `c`. -/
def score (c : ℕ) : ℝ := ∑ d : Fin 24, Q d.val * K c d.val

/-- A value with the constant 1 after the last column. -/
def ones (c d : ℕ) : ℝ := if d < 24 then V c d else 1

/-- The row's product with a key, the query in units of `log 2`. -/
theorem product (n : ℕ) (k' : FVec Ideal (mat n 24) .bf16) (j : Fin n) (c : ℕ)
    (hq : ∀ d : Fin 24, q (ix2 i d) = ((Q d.val * (Real.log 2)⁻¹ : ℝ) : EReal))
    (hk : ∀ d : Fin 24, k' (ix2 j d) = ((K c d.val : ℝ) : EReal)) :
    ∑ d : Fin 24, q (ix2 i d) * k' (ix2 j d) = ((score Q K c * (Real.log 2)⁻¹ : ℝ) : EReal) := by
  simp only [hq, hk, ← EReal.coe_mul, coe_sum, score, Finset.sum_mul]
  exact congrArg _ (Finset.sum_congr rfl fun d _ => by ring)

/-- The earlier blocks' scores. -/
theorem mainScores_apply (j : Fin main)
    (hq : ∀ d : Fin 24, q (ix2 i d) = ((Q d.val * (Real.log 2)⁻¹ : ℝ) : EReal))
    (hk : ∀ (j : Fin ext) (d : Fin 24), k (ix2 j d) = ((K j.val d.val : ℝ) : EReal)) :
    mainScores g q k (ix2 i j) = ((score Q K j.val * (Real.log 2)⁻¹ : ℝ) : EReal) := by
  have hs : ∀ y, shapeCast (mat 256 24) q g.same y = q y := fun y => congrFun (shapeCast_self _ _) y
  have ht : ∀ y, shapeCast (mat ext 24) k g.sameK y = k y := fun y => congrFun (shapeCast_self _ _) y
  unfold mainScores
  rw [qk_apply]
  refine product _ i Q K main _ j j.val (fun d => (hs _).trans (hq d)) fun d => ?_
  rw [rows_apply 0 main ext 24 _ g.firstK j d (main_lt_ext g j), ht, hk]
  simp

/-- The diagonal block's scores. -/
theorem maskScores_apply (kB : FVec Ideal (mat 256 24) .bf16) (b : Fin 256)
    (hq : ∀ d : Fin 24, q (ix2 i d) = ((Q d.val * (Real.log 2)⁻¹ : ℝ) : EReal))
    (hk : ∀ (b : Fin 256) (d : Fin 24), kB (ix2 b d) = ((K (main + b.val) d.val : ℝ) : EReal)) :
    maskScores g q kB (ix2 i b) = if b.val ≤ i.val then ((score Q K (main + b.val) * (Real.log 2)⁻¹ : ℝ) : EReal) else ⊥ := by
  pointwise [maskScores, visible]
  rw [sees_block, product q i Q K 256 kB b (main + b.val) hq (hk b), Consts.negInf]
  by_cases h : b.val ≤ i.val <;> simp [h, Scalar.select]

/-- The values with a column of ones. -/
theorem valuesOnes_apply (j : Fin ext) (d : Fin 25) (hv : ∀ (j : Fin ext) (d : Fin 24), v (ix2 j d) = ((V j.val d.val : ℝ) : EReal)) :
    valuesOnes g v (ix2 j d) = ((ones V j.val d.val : ℝ) : EReal) := by
  pointwise [valuesOnes]
  by_cases h : d.val < 24
  · rw [dif_pos h, ones, if_pos h, ← hv j ⟨d.val, h⟩]
    exact congrArg v (funext fun a => match a with | ⟨0, _⟩ => rfl | ⟨1, _⟩ => rfl)
  · rw [dif_neg h, ones, if_neg h]; rfl

/-- The weighted sum over the diagonal block. -/
theorem block_sum (s : FVec Ideal (mat 256 256) .f32) (mx : FVec Ideal (mat 256 1) .f32) (m : ℝ) (vB : FVec Ideal (mat 256 25) .bf16) (d : Fin 25)
    (a : ℕ → ℝ)
    (hs : ∀ b : Fin 256, s (ix2 i b) = if b.val ≤ i.val then ((a (main + b.val) * (Real.log 2)⁻¹ : ℝ) : EReal) else ⊥)
    (hm : mx (ix2 i 0) = (m : EReal))
    (hv : ∀ b : Fin 256, vB (ix2 b d) = ((ones V (main + b.val) d.val : ℝ) : EReal)) :
    matmul (pvDot 256 g.pvWf) none (weightsB g s mx narrower) vB (constant (mat 256 25) .f32 0x00000000#32) (ix2 i d)
      = ((∑ b : Fin 256, (if b.val ≤ i.val then Real.exp (a (main + b.val) - m * Real.log 2) * ones V (main + b.val) d.val else 0) : ℝ) : EReal) := by
  rw [pv_apply, ← coe_sum]
  refine Finset.sum_congr rfl fun b _ => ?_
  pointwise [weightsB]
  rw [hs, hm, hv]
  show Ideal.exp2 _ * _ = _
  by_cases h : b.val ≤ i.val
  · rw [if_pos h, if_pos h, exp2_shift, EReal.coe_mul]
  · rw [if_neg h, if_neg h, exp2_hidden, zero_mul, EReal.coe_zero]

/-- The weighted sum over the earlier blocks. -/
theorem main_sum (s : FVec Ideal (mat 256 main) .f32) (mx : FVec Ideal (mat 256 1) .f32) (m : ℝ) (vM : FVec Ideal (mat main 25) .bf16) (d : Fin 25)
    (a : ℕ → ℝ)
    (hs : ∀ j : Fin main, s (ix2 i j) = ((a j.val * (Real.log 2)⁻¹ : ℝ) : EReal))
    (hm : mx (ix2 i 0) = (m : EReal))
    (hv : ∀ j : Fin main, vM (ix2 j d) = ((ones V j.val d.val : ℝ) : EReal)) :
    matmul (pvDot main g.pvMainWf) none (weightsM g s mx narrower) vM (constant (mat 256 25) .f32 0x00000000#32) (ix2 i d)
      = ((∑ j : Fin main, Real.exp (a j.val - m * Real.log 2) * ones V j.val d.val : ℝ) : EReal) := by
  rw [pv_apply, ← coe_sum]
  refine Finset.sum_congr rfl fun j _ => ?_
  pointwise [weightsM]
  rw [hs, hm, hv]
  show Ideal.exp2 _ * _ = _
  rw [exp2_shift, EReal.coe_mul]

/-- The quotient of the weighted values by the weights' sum is the mixture. -/
theorem normal_apply (ol : FVec Ideal (mat 256 25) .f32) (R : ℕ) (a : ℕ → ℝ) (μ : ℝ) (d : Fin 24)
    (ho : ∀ d : Fin 25, ol (ix2 i d) = ((∑ c ∈ Finset.range (R + 1), Real.exp (a c - μ) * ones V c d.val : ℝ) : EReal)) :
    normal g ol (ix2 i d) = ((mix R a (fun c => V c d.val) : ℝ) : EReal) := by
  have hd : d.val < 24 := d.isLt
  have hl := (weights_pos R fun c => a c - μ).ne'
  pointwise [normal]
  rw [ho, ho]
  simp only [ones, hd, if_true, show ((24 : Fin 25) : ℕ) = 24 from rfl, lt_irrefl, if_false, mul_one]
  rw [Ideal.div_coe hl, one_mul, ← EReal.coe_mul, ← mix_shift R a _ μ, mul_one_div]

/-- The largest entry of a row of a diagonal block's scores. -/
theorem rowMaxB_apply (s : FVec Ideal (mat 256 256) .f32) :
    rowMaxB g s (ix2 i 0) = Finset.univ.fold max ⊥ fun b : Fin 256 => s (ix2 i b) := by
  pointwise [rowMaxB]
  rw [Consts.negInf]

/-- The largest entry of a row of the earlier blocks' scores. -/
theorem rowMaxM_apply (s : FVec Ideal (mat 256 main) .f32) :
    rowMaxM g s (ix2 i 0) = Finset.univ.fold max ⊥ fun j : Fin main => s (ix2 i j) := by
  pointwise [rowMaxM]
  rw [Consts.negInf]

/-- The largest visible score of the diagonal block is no infinity. -/
theorem block_max (a : ℕ → ℝ) : (Finset.univ.fold max ⊥ fun b : Fin 256 => if b.val ≤ i.val then ((a b.val : ℝ) : EReal) else ⊥) ≠ ⊤
    ∧ (Finset.univ.fold max ⊥ fun b : Fin 256 => if b.val ≤ i.val then ((a b.val : ℝ) : EReal) else ⊥) ≠ ⊥ :=
  ⟨fold_ne_top _ _ fun b => by split; exacts [EReal.coe_ne_top _, bot_ne_top],
   fold_ne_bot _ i (by rw [if_pos le_rfl]; exact EReal.coe_ne_bot _)⟩

/-- A head's output at the first row block is the row's mixture. -/
theorem firstOut_apply (g : Geo 0 256) (q k v : FVec Ideal (mat 256 24) .bf16) (d : Fin 24)
    (hq : ∀ d : Fin 24, q (ix2 i d) = ((Q d.val * (Real.log 2)⁻¹ : ℝ) : EReal))
    (hk : ∀ (j : Fin 256) (d : Fin 24), k (ix2 j d) = ((K j.val d.val : ℝ) : EReal))
    (hv : ∀ (j : Fin 256) (d : Fin 24), v (ix2 j d) = ((V j.val d.val : ℝ) : EReal)) :
    firstOut g q k v (ix2 i d) = ((mix (0 + i.val) (score Q K) (fun c => V c d.val) : ℝ) : EReal) := by
  have ht : ∀ y, shapeCast (mat 256 24) k g.same y = k y := fun y => congrFun (shapeCast_self _ _) y
  have hs := fun b => maskScores_apply g q i Q K (shapeCast (mat 256 24) k g.same) b hq
    fun b d => (ht _).trans ((hk b d).trans (by rw [Nat.zero_add]))
  obtain ⟨m, hm⟩ : ∃ m : ℝ, rowMaxB g (maskScores g q (shapeCast (mat 256 24) k g.same)) (ix2 i 0) = (m : EReal) := by
    obtain ⟨hT, hB⟩ := block_max i fun b => score Q K (0 + b) * (Real.log 2)⁻¹
    rw [rowMaxB_apply, funext hs, ← max_self (Finset.fold _ _ _ _)]
    exact max_real _ _ hT hT hB
  have hV : ∀ (d : Fin 25) (b : Fin 256), valuesOnes g v (ix2 b d) = ((ones V (0 + b.val) d.val : ℝ) : EReal) := fun d b => by
    rw [Nat.zero_add]
    exact valuesOnes_apply g v V b d hv
  have hO : ∀ d : Fin 25, matmul (pvDot 256 g.pvWf) none (weightsB g (maskScores g q (shapeCast (mat 256 24) k g.same))
      (rowMaxB g (maskScores g q (shapeCast (mat 256 24) k g.same))) narrower) (valuesOnes g v) (constant (mat 256 25) .f32 0x00000000#32) (ix2 i d)
      = ((∑ c ∈ Finset.range (0 + i.val + 1), Real.exp (score Q K c - m * Real.log 2) * ones V c d.val : ℝ) : EReal) := fun d => by
    rw [block_sum g i V _ _ m _ d (score Q K) hs hm (hV d),
      ← sum_blocks 0 i.val i.isLt fun c => Real.exp (score Q K c - m * Real.log 2) * ones V c d.val, Fin.sum_univ_zero, zero_add]
  exact normal_apply g i V _ (0 + i.val) (score Q K) (m * Real.log 2) d hO

/-- A head's output at a later row block is the row's mixture. -/
theorem laterOut_apply (d : Fin 24)
    (hq : ∀ d : Fin 24, q (ix2 i d) = ((Q d.val * (Real.log 2)⁻¹ : ℝ) : EReal))
    (hk : ∀ (j : Fin ext) (d : Fin 24), k (ix2 j d) = ((K j.val d.val : ℝ) : EReal))
    (hv : ∀ (j : Fin ext) (d : Fin 24), v (ix2 j d) = ((V j.val d.val : ℝ) : EReal)) :
    laterOut g q k v (ix2 i d) = ((mix (main + i.val) (score Q K) (fun c => V c d.val) : ℝ) : EReal) := by
  have ht : ∀ y, shapeCast (mat ext 24) k g.sameK y = k y := fun y => congrFun (shapeCast_self _ _) y
  have hK : ∀ (b : Fin 256) (d : Fin 24), extractStridedSlice (mat 256 24) ![main, 0] (shapeCast (mat ext 24) k g.sameK) g.lastK (ix2 b d)
      = ((K (main + b.val) d.val : ℝ) : EReal) := fun b d => by
    rw [rows_apply main 256 ext 24 _ g.lastK b d (lt_ext g b), ht, hk]
  have hB := fun b => maskScores_apply g q i Q K _ b hq hK
  have hM := fun j => mainScores_apply g q k i Q K j hq hk
  obtain ⟨m, hm⟩ : ∃ m : ℝ, maximumf (rowMaxM g (mainScores g q k)) (rowMaxB g (maskScores g q
      (extractStridedSlice (mat 256 24) ![main, 0] (shapeCast (mat ext 24) k g.sameK) g.lastK))) (ix2 i 0) = (m : EReal) := by
    obtain ⟨hT, hF⟩ := block_max i fun b => score Q K (main + b) * (Real.log 2)⁻¹
    rw [show ∀ x y : FVec Ideal (mat 256 1) .f32, maximumf x y (ix2 i 0) = max (x (ix2 i 0)) (y (ix2 i 0)) from fun _ _ => rfl,
      rowMaxB_apply, rowMaxM_apply, funext hB, funext hM]
    exact max_real _ _ (fold_ne_top _ _ fun j => EReal.coe_ne_top _) hT hF
  have hVM : ∀ (d : Fin 25) (j : Fin main), extractStridedSlice (mat main 25) ![0, 0] (valuesOnes g v) g.firstV (ix2 j d) = ((ones V j.val d.val : ℝ) : EReal) := fun d j => by
    rw [rows_apply 0 main ext 25 _ g.firstV j d (main_lt_ext g j), valuesOnes_apply g v V _ d hv]
    simp only [zero_add]
  have hVB : ∀ (d : Fin 25) (b : Fin 256), extractStridedSlice (mat 256 25) ![main, 0] (valuesOnes g v) g.lastV (ix2 b d) = ((ones V (main + b.val) d.val : ℝ) : EReal) := fun d b => by
    rw [rows_apply main 256 ext 25 _ g.lastV b d (lt_ext g b), valuesOnes_apply g v V _ d hv]
  refine normal_apply g i V _ (main + i.val) (score Q K) (m * Real.log 2) d fun d => ?_
  refine (congrArg₂ (· + ·) (main_sum g i V _ _ m _ d (score Q K) hM hm (hVM d)) (block_sum g i V _ _ m _ d (score Q K) hB hm (hVB d))).trans ?_
  rw [← sum_blocks main i.val i.isLt fun c => Real.exp (score Q K c - m * Real.log 2) * ones V c d.val]
  exact (EReal.coe_add _ _).symm

end Row

end Cert.HeadValue

end
-- ==== Proof.BlockValue.lean ====
/- What a row block of the kernel's attention is, from the queries, keys and values side by side: every entry is its row's
   mixture (Mix.lean), whatever head computes it. -/
module

public import proofs.«01_k».proof.Proof.HeadValue
public import proofs.«01_k».proof.Proof.HeadsRun

@[expose] public section

noncomputable section

namespace Cert.BlockValue

open Idealize.ShloMosaic Idealize.ShloMosaic.TcCoe Cert.Heads Cert.Mix
open scoped BigOperators

section Part

variable {F : FTy → Type} [FloatOps F]

/-- Rows from `r` on of column block `b` (0 queries, 1 keys, 2 values). -/
def part (n r b : ℕ) (hr : r + n ≤ 2048) (hb : b < 3) (Z : Vec F (mat 2048 2304) .bf16) : Vec F (mat n 768) .bf16 :=
  fun y => Z (ix2 ⟨r + (y 0).val, by have : (y 0).val < n := (y 0).isLt; omega⟩ ⟨768 * b + (y 1).val, by have : (y 1).val < 768 := (y 1).isLt; omega⟩)

/-- The attention of the row block of main rows `main` on. -/
def attend {main ext : ℕ} (hm : main + 256 ≤ 2048) (he : 0 + ext ≤ 2048)
    (out : FVec F (mat 256 24) .bf16 → FVec F (mat ext 24) .bf16 → FVec F (mat ext 24) .bf16 → FVec F (mat 256 24) .f32)
    (Z : Vec F (mat 2048 2304) .bf16) : Vec F (mat 256 768) .f32 :=
  block out (part 256 main 0 hm (by decide) Z) (part ext 0 1 he (by decide) Z) (part ext 0 2 he (by decide) Z)

/-- A head's columns of a part, entry by entry. -/
theorem ld_part (n r b : ℕ) (hr : r + n ≤ 2048) (hb : b < 3) (Z : Vec F (mat 2048 2304) .bf16) (h : Fin 32) (i : Fin n) (d : Fin 24) :
    View.ld (part n r b hr hb Z) (cols n h) (ix2 i d) = Z (ix2 ⟨r + i.val, by omega⟩ ⟨768 * b + (h.val * 24 + d.val), by omega⟩) := by
  refine congrArg Z (funext fun a => Fin.ext ?_)
  match a with
  | ⟨0, _⟩ => show r + (0 + 1 * i.val) = r + i.val; omega
  | ⟨1, _⟩ => show 768 * b + (24 * h.val + 1 * d.val) = 768 * b + (h.val * 24 + d.val); omega

/-- An entry of a block is its head's output in the column's lane. -/
theorem block_apply {ext : ℕ} (out : FVec F (mat 256 24) .bf16 → FVec F (mat ext 24) .bf16 → FVec F (mat ext 24) .bf16 → FVec F (mat 256 24) .f32)
    (x1 : Vec F (mat 256 768) .bf16) (x2 x3 : Vec F (mat ext 768) .bf16) (i : Fin 256) (c : Fin 768) :
    block out x1 x2 x3 (ix2 i c)
      = out (View.ld x1 (cols 256 (headOf c))) (View.ld x2 (cols ext (headOf c))) (View.ld x3 (cols ext (headOf c))) (ix2 i (lane c)) := by
  unfold block
  exact congrArg (out _ _ _) (funext fun a => match a with | ⟨0, _⟩ => rfl | ⟨1, _⟩ => rfl)

end Part

/-- The attention of real queries, keys and values, the queries in units of `log 2` and scaled, is the mixture. -/
theorem attend_apply {main ext : ℕ} (hm : main + 256 ≤ 2048) (he : 0 + ext ≤ 2048)
    (out : FVec Ideal (mat 256 24) .bf16 → FVec Ideal (mat ext 24) .bf16 → FVec Ideal (mat ext 24) .bf16 → FVec Ideal (mat 256 24) .f32)
    (hout : ∀ (q : FVec Ideal (mat 256 24) .bf16) (k v : FVec Ideal (mat ext 24) .bf16) (i : Fin 256) (Q : ℕ → ℝ) (K V : ℕ → ℕ → ℝ) (d : Fin 24),
      (∀ d : Fin 24, q (ix2 i d) = ((Q d.val * (Real.log 2)⁻¹ : ℝ) : EReal)) →
      (∀ (j : Fin ext) (d : Fin 24), k (ix2 j d) = ((K j.val d.val : ℝ) : EReal)) →
      (∀ (j : Fin ext) (d : Fin 24), v (ix2 j d) = ((V j.val d.val : ℝ) : EReal)) →
      out q k v (ix2 i d) = ((mix (main + i.val) (HeadValue.score Q K) (fun c => V c d.val) : ℝ) : EReal))
    (Z : Vec Ideal (mat 2048 2304) .bf16) (Y : ℕ → ℕ → ℝ)
    (hq : ∀ (r : Fin 2048) (c : Fin 2304), c.val < 768 → Z (ix2 r c) = ((Y r.val c.val * ((Real.log 2)⁻¹ * (Real.sqrt 24)⁻¹) : ℝ) : EReal))
    (hkv : ∀ (r : Fin 2048) (c : Fin 2304), 768 ≤ c.val → Z (ix2 r c) = ((Y r.val c.val : ℝ) : EReal))
    (i : Fin 256) (c : Fin 768) :
    attend hm he out Z (ix2 i c) = ((headMix Y (main + i.val) c.val : ℝ) : EReal) := by
  have hh : c.val / 24 < 32 := by omega
  refine (block_apply out _ _ _ i c).trans ?_
  refine (hout _ _ _ i (fun d => Y (main + i.val) (c.val / 24 * 24 + d) * (Real.sqrt 24)⁻¹)
    (fun j d => Y j (768 + (c.val / 24 * 24 + d))) (fun j d => Y j (1536 + (c.val / 24 * 24 + d))) (lane c) (fun d => ?_) (fun j d => ?_) fun j d => ?_).trans ?_
  · refine (ld_part _ _ _ _ _ _ _ _ _).trans ((hq _ _ ?_).trans ?_)
    · show 768 * 0 + (c.val / 24 * 24 + d.val) < 768
      omega
    · refine congrArg _ ?_
      show Y (main + i.val) (768 * 0 + (c.val / 24 * 24 + d.val)) * _ = _
      rw [Nat.mul_zero, Nat.zero_add]; ring
  · refine (ld_part _ _ _ _ _ _ _ _ _).trans ((hkv _ _ ?_).trans ?_)
    · show 768 ≤ 768 * 1 + (c.val / 24 * 24 + d.val)
      omega
    · show ((Y (0 + j.val) (768 * 1 + (c.val / 24 * 24 + d.val)) : ℝ) : EReal) = _
      rw [Nat.zero_add]
  · refine (ld_part _ _ _ _ _ _ _ _ _).trans ((hkv _ _ ?_).trans ?_)
    · show 768 ≤ 768 * 2 + (c.val / 24 * 24 + d.val)
      omega
    · show ((Y (0 + j.val) (768 * 2 + (c.val / 24 * 24 + d.val)) : ℝ) : EReal) = _
      rw [Nat.zero_add]
  · have hs : HeadValue.score (fun d => Y (main + i.val) (c.val / 24 * 24 + d) * (Real.sqrt 24)⁻¹) (fun j d => Y j (768 + (c.val / 24 * 24 + d)))
        = headScore Y (c.val / 24) (main + i.val) := funext fun j => by
      unfold HeadValue.score headScore
      rw [Finset.sum_mul]
      exact Finset.sum_congr rfl fun d _ => by ring
    rw [hs]
    rfl

end Cert.BlockValue

end
-- ==== Proof.KernelArrays.lean ====
/- What the idealized kernel's arrays hold after each of its calls, in terms of what the call is entered with: the joint
   projection, the eight row blocks of the attention, and the output projection. -/
module

public import proofs.«01_k».proof.Proof.KernelIdealRun
public import proofs.«01_k».proof.Proof.BlockValue
public import Idealize.ShloMosaic.Lib.Pipeline.ValueKit

@[expose] public section

noncomputable section

namespace Cert.KernelArrays

open Idealize.ShloMosaic Idealize.ShloMosaic.TcCoe Idealize.ShloMosaic.Tactic
open Idealize.SL.Sem
open Cert.Heads Cert.Region Cert.Dense Cert.BlockValue Cert.KernelIdeal Cert.KernelIdeal.Gen Cert.KernelIdealRun

variable {F : FTy → Type} [FloatOps F] [Named F]

/-! ## What a fetch leaves staged -/

/-- An uncut block is moved whole. -/
theorem moved_of (cfg : Pipeline.Cfg sig Λ₀) (w : Fin cfg.W) (t : Fin cfg.N)
    (hc : ∀ a, (cfg.win w).clip (cfg.grid.coords t) a = none) (y : (cfg.win w).block.Idx) : (cfg.win w).moved (cfg.grid.coords t) y = true :=
  ((cfg.win w).moved_iff _ y).mpr fun a => by have := (y a).isLt; unfold Pipeline.Window.xsize; rw [hc a]; exact this

/-- A place of an uncut block among those moved. -/
abbrev under (cfg : Pipeline.Cfg sig Λ₀) (w : Fin cfg.W) (t : Fin cfg.N)
    (hc : ∀ a, (cfg.win w).clip (cfg.grid.coords t) a = none) (y : (cfg.win w).block.Idx) : ((cfg.win w).xblock (cfg.grid.coords t)).Idx :=
  fun a => ⟨(y a).val, ((cfg.win w).moved_iff (cfg.grid.coords t) y).mp (moved_of cfg w t hc y) a⟩

/-- An entry of the staging buffer after a fetch is the array's entry under it. -/
theorem landed_apply (cfg : Pipeline.Cfg sig Λ₀) (V : Valuation τ sig (Elt F)) (w : Fin cfg.W) (t : Fin cfg.N)
    (hc : ∀ a, (cfg.win w).clip (cfg.grid.coords t) a = none) (y : (cfg.win w).block.Idx) :
    landed cfg V w t y = ((cfg.win w).blk t).view.read (Elt F) (V (Proc.devRef .tc (Pipeline.arrRef cfg.spec w))) (under cfg w t hc y) := by
  unfold landed Pipeline.Window.fill
  exact dif_pos (moved_of cfg w t hc y)

/-- Where an entry of an uncut block lies in the array. -/
abbrev place (cfg : Pipeline.Cfg sig Λ₀) (w : Fin cfg.W) (t : Fin cfg.N)
    (hc : ∀ a, (cfg.win w).clip (cfg.grid.coords t) a = none) (y : (cfg.win w).block.Idx) :=
  ((cfg.win w).blk t).view.emb (under cfg w t hc y)

/-- Contents read from the array at the places of a block are a part of it when the block starts where the part does. -/
theorem eq_part {n r b : ℕ} (hr : r + n ≤ 2048) (hb : b < 3) (Z : Vec F (mat 2048 2304) .bf16) (x : Vec F (mat n 768) .bf16)
    (e : (mat n 768).Idx → (mat 2048 2304).Idx) (start : Fin 2 → ℕ) (hx : ∀ y, x y = Z (e y)) (he : ∀ y a, (e y a).val = start a + (y a).val)
    (hs : start 0 = r ∧ start 1 = 768 * b) : x = part n r b hr hb Z := by
  funext y
  rw [hx]
  exact congrArg Z (funext fun a => Fin.ext (match a with
    | ⟨0, _⟩ => (he y 0).trans (congrArg (· + (y 0).val) hs.1) | ⟨1, _⟩ => (he y 1).trans (congrArg (· + (y 1).val) hs.2)))

/-- Contents read from a matrix at the places of a block as large as itself are the matrix. -/
theorem eq_whole {α : Type} {m n : ℕ} (Z x : (mat m n).Idx → α) (e : (mat m n).Idx → (mat m n).Idx) (start : Fin 2 → ℕ) (hx : ∀ y, x y = Z (e y))
    (he : ∀ y a, (e y a).val = start a + (y a).val) (hs : start 0 = 0 ∧ start 1 = 0) : x = Z := by
  funext y
  rw [hx]
  exact congrArg Z (funext fun a => Fin.ext (match a with
    | ⟨0, _⟩ => (he y 0).trans ((congrArg (· + (y 0).val) hs.1).trans (Nat.zero_add _)) | ⟨1, _⟩ => (he y 1).trans ((congrArg (· + (y 1).val) hs.2).trans (Nat.zero_add _))))

/-- The attention of a row block from its staged parts: the queries start at the block's first row, the keys and the values
    at the array's first row, in the second and the third 768 columns. -/
theorem attend_of {main ext : ℕ} (hm : main + 256 ≤ 2048) (he : 0 + ext ≤ 2048)
    (out : FVec F (mat 256 24) .bf16 → FVec F (mat ext 24) .bf16 → FVec F (mat ext 24) .bf16 → FVec F (mat 256 24) .f32)
    (Z : Vec F (mat 2048 2304) .bf16) (q : Vec F (mat 256 768) .bf16) (k v : Vec F (mat ext 768) .bf16)
    (eq : (mat 256 768).Idx → (mat 2048 2304).Idx) (ek ev : (mat ext 768).Idx → (mat 2048 2304).Idx) (sq sk sv : Fin 2 → ℕ)
    (hq : ∀ y, q y = Z (eq y)) (hk : ∀ y, k y = Z (ek y)) (hv : ∀ y, v y = Z (ev y))
    (hq' : ∀ y a, (eq y a).val = sq a + (y a).val) (hk' : ∀ y a, (ek y a).val = sk a + (y a).val) (hv' : ∀ y a, (ev y a).val = sv a + (y a).val)
    (hs : (sq 0 = main ∧ sq 1 = 768 * 0) ∧ (sk 0 = 0 ∧ sk 1 = 768 * 1) ∧ (sv 0 = 0 ∧ sv 1 = 768 * 2)) :
    block out q k v = attend hm he out Z := by
  rw [eq_part hm (by decide) Z q eq sq hq hq' hs.1, eq_part he (by decide) Z k ek sk hk hk' hs.2.1, eq_part he (by decide) Z v ev sv hv hv' hs.2.2]
  rfl

/-- Where a block of a call starts, in elements. -/
abbrev start (cfg : Pipeline.Cfg sig Λ₀) (w : Fin cfg.W) (t : Fin cfg.N) (a : Fin (cfg.win w).shape.rank) : ℕ :=
  (cfg.win w).kind.off ((cfg.win w).index t a) ((cfg.win w).size a)

/-- A block's entry lies at the block's start and its own place. -/
theorem place_val (cfg : Pipeline.Cfg sig Λ₀) (w : Fin cfg.W) (t : Fin cfg.N)
    (hc : ∀ a, (cfg.win w).clip (cfg.grid.coords t) a = none) (y : (cfg.win w).block.Idx) (a : Fin (cfg.win w).shape.rank) :
    ((cfg.win w).rect t |>.emb (under cfg w t hc y) a : ℕ) = start cfg w t a + (y a).val :=
  Pipeline.Window.rect_emb_val_off (cfg.win w) t (under cfg w t hc y) a

/-! ## The two projections -/

/-- Call 0 leaves the joint projection. -/
theorem left0 (c : Dev nD) (V : Valuation τ sig (Elt F)) :
    leave (UR sig nD τ) cfg0 (X0 V) c V (Proc.devRef .tc main_v1) = qkv KernelIdealBodies.scale (V (Proc.devRef .tc main_v0)) (V (Proc.devRef .tc main_arg1)) :=
  (leave_arr cfg0 launch0.to₀.sharedIn (X0 V) c V 2).trans
    ((Pipeline.Dat.arrAt_eq_of_after_last _ 2 t0_0 (by decide +kernel) (X0 V 2 t0_0) fun j => by blk_simp; rfl).trans (congrArg₂ (qkv KernelIdealBodies.scale)
      (eq_whole _ _ (place cfg0 0 t0_0 (by decide +kernel)) (start cfg0 0 t0_0) (landed_apply cfg0 V 0 t0_0 _) (place_val cfg0 0 t0_0 _) (by decide +kernel))
      (eq_whole _ _ (place cfg0 1 t0_0 (by decide +kernel)) (start cfg0 1 t0_0) (landed_apply cfg0 V 1 t0_0 _) (place_val cfg0 1 t0_0 _) (by decide +kernel))))

/-- Call 9 leaves the output projection. -/
theorem left9 (c : Dev nD) (V : Valuation τ sig (Elt F)) :
    leave (UR sig nD τ) cfg9 (X9 V) c V (Proc.devRef .tc main_v11) = proj (V (Proc.devRef .tc main_v10)) (V (Proc.devRef .tc main_arg2)) :=
  (leave_arr cfg9 launch9.to₀.sharedIn (X9 V) c V 2).trans
    ((Pipeline.Dat.arrAt_eq_of_after_last _ 2 t9_0 (by decide +kernel) (X9 V 2 t9_0) fun j => by blk_simp; rfl).trans (congrArg₂ (proj)
      (eq_whole _ _ (place cfg9 0 t9_0 (by decide +kernel)) (start cfg9 0 t9_0) (landed_apply cfg9 V 0 t9_0 _) (place_val cfg9 0 t9_0 _) (by decide +kernel))
      (eq_whole _ _ (place cfg9 1 t9_0 (by decide +kernel)) (start cfg9 1 t9_0) (landed_apply cfg9 V 1 t9_0 _) (place_val cfg9 1 t9_0 _) (by decide +kernel))))

/-! ## The attention, row block by row block -/

/-- Call 1 leaves the attention of row block 0. -/
theorem left1 (c : Dev nD) (V : Valuation τ sig (Elt F)) :
    leave (UR sig nD τ) cfg1 (X1 V) c V (Proc.devRef .tc main_v2)
      = attend (main := 0) (ext := 256) (by decide) (by decide) (firstOut geo0) (V (Proc.devRef .tc main_v1)) :=
  (leave_arr cfg1 launch₀1.sharedIn (X1 V) c V 3).trans
    ((Pipeline.Dat.arrAt_eq_of_after_last _ 3 t1_0 (by decide +kernel) (X1 V 3 t1_0) fun j => by blk_simp; rfl).trans
      (attend_of _ _ _ _ _ _ _ (place cfg1 0 t1_0 (by decide +kernel)) (place cfg1 1 t1_0 (by decide +kernel)) (place cfg1 2 t1_0 (by decide +kernel)) (start cfg1 0 t1_0) (start cfg1 1 t1_0) (start cfg1 2 t1_0)
        (landed_apply cfg1 V 0 t1_0 _) (landed_apply cfg1 V 1 t1_0 _) (landed_apply cfg1 V 2 t1_0 _)
        (place_val cfg1 0 t1_0 _) (place_val cfg1 1 t1_0 _) (place_val cfg1 2 t1_0 _) (by decide +kernel)))

/-- Call 2 leaves the attention of row block 1. -/
theorem left2 (c : Dev nD) (V : Valuation τ sig (Elt F)) :
    leave (UR sig nD τ) cfg2 (X2 V) c V (Proc.devRef .tc main_v3)
      = attend (main := 256) (ext := 512) (by decide) (by decide) (laterOut geo1) (V (Proc.devRef .tc main_v1)) :=
  (leave_arr cfg2 launch₀2.sharedIn (X2 V) c V 3).trans
    ((Pipeline.Dat.arrAt_eq_of_after_last _ 3 t2_0 (by decide +kernel) (X2 V 3 t2_0) fun j => by blk_simp; rfl).trans
      (attend_of _ _ _ _ _ _ _ (place cfg2 0 t2_0 (by decide +kernel)) (place cfg2 1 t2_0 (by decide +kernel)) (place cfg2 2 t2_0 (by decide +kernel)) (start cfg2 0 t2_0) (start cfg2 1 t2_0) (start cfg2 2 t2_0)
        (landed_apply cfg2 V 0 t2_0 _) (landed_apply cfg2 V 1 t2_0 _) (landed_apply cfg2 V 2 t2_0 _)
        (place_val cfg2 0 t2_0 _) (place_val cfg2 1 t2_0 _) (place_val cfg2 2 t2_0 _) (by decide +kernel)))

/-- Call 3 leaves the attention of row block 2. -/
theorem left3 (c : Dev nD) (V : Valuation τ sig (Elt F)) :
    leave (UR sig nD τ) cfg3 (X3 V) c V (Proc.devRef .tc main_v4)
      = attend (main := 512) (ext := 768) (by decide) (by decide) (laterOut geo2) (V (Proc.devRef .tc main_v1)) :=
  (leave_arr cfg3 launch₀3.sharedIn (X3 V) c V 3).trans
    ((Pipeline.Dat.arrAt_eq_of_after_last _ 3 t3_0 (by decide +kernel) (X3 V 3 t3_0) fun j => by blk_simp; rfl).trans
      (attend_of _ _ _ _ _ _ _ (place cfg3 0 t3_0 (by decide +kernel)) (place cfg3 1 t3_0 (by decide +kernel)) (place cfg3 2 t3_0 (by decide +kernel)) (start cfg3 0 t3_0) (start cfg3 1 t3_0) (start cfg3 2 t3_0)
        (landed_apply cfg3 V 0 t3_0 _) (landed_apply cfg3 V 1 t3_0 _) (landed_apply cfg3 V 2 t3_0 _)
        (place_val cfg3 0 t3_0 _) (place_val cfg3 1 t3_0 _) (place_val cfg3 2 t3_0 _) (by decide +kernel)))

/-- Call 4 leaves the attention of row block 3. -/
theorem left4 (c : Dev nD) (V : Valuation τ sig (Elt F)) :
    leave (UR sig nD τ) cfg4 (X4 V) c V (Proc.devRef .tc main_v5)
      = attend (main := 768) (ext := 1024) (by decide) (by decide) (laterOut geo3) (V (Proc.devRef .tc main_v1)) :=
  (leave_arr cfg4 launch₀4.sharedIn (X4 V) c V 3).trans
    ((Pipeline.Dat.arrAt_eq_of_after_last _ 3 t4_0 (by decide +kernel) (X4 V 3 t4_0) fun j => by blk_simp; rfl).trans
      (attend_of _ _ _ _ _ _ _ (place cfg4 0 t4_0 (by decide +kernel)) (place cfg4 1 t4_0 (by decide +kernel)) (place cfg4 2 t4_0 (by decide +kernel)) (start cfg4 0 t4_0) (start cfg4 1 t4_0) (start cfg4 2 t4_0)
        (landed_apply cfg4 V 0 t4_0 _) (landed_apply cfg4 V 1 t4_0 _) (landed_apply cfg4 V 2 t4_0 _)
        (place_val cfg4 0 t4_0 _) (place_val cfg4 1 t4_0 _) (place_val cfg4 2 t4_0 _) (by decide +kernel)))

/-- Call 5 leaves the attention of row block 4. -/
theorem left5 (c : Dev nD) (V : Valuation τ sig (Elt F)) :
    leave (UR sig nD τ) cfg5 (X5 V) c V (Proc.devRef .tc main_v6)
      = attend (main := 1024) (ext := 1280) (by decide) (by decide) (laterOut geo4) (V (Proc.devRef .tc main_v1)) :=
  (leave_arr cfg5 launch₀5.sharedIn (X5 V) c V 3).trans
    ((Pipeline.Dat.arrAt_eq_of_after_last _ 3 t5_0 (by decide +kernel) (X5 V 3 t5_0) fun j => by blk_simp; rfl).trans
      (attend_of _ _ _ _ _ _ _ (place cfg5 0 t5_0 (by decide +kernel)) (place cfg5 1 t5_0 (by decide +kernel)) (place cfg5 2 t5_0 (by decide +kernel)) (start cfg5 0 t5_0) (start cfg5 1 t5_0) (start cfg5 2 t5_0)
        (landed_apply cfg5 V 0 t5_0 _) (landed_apply cfg5 V 1 t5_0 _) (landed_apply cfg5 V 2 t5_0 _)
        (place_val cfg5 0 t5_0 _) (place_val cfg5 1 t5_0 _) (place_val cfg5 2 t5_0 _) (by decide +kernel)))

/-- Call 6 leaves the attention of row block 5. -/
theorem left6 (c : Dev nD) (V : Valuation τ sig (Elt F)) :
    leave (UR sig nD τ) cfg6 (X6 V) c V (Proc.devRef .tc main_v7)
      = attend (main := 1280) (ext := 1536) (by decide) (by decide) (laterOut geo5) (V (Proc.devRef .tc main_v1)) :=
  (leave_arr cfg6 launch₀6.sharedIn (X6 V) c V 3).trans
    ((Pipeline.Dat.arrAt_eq_of_after_last _ 3 t6_0 (by decide +kernel) (X6 V 3 t6_0) fun j => by blk_simp; rfl).trans
      (attend_of _ _ _ _ _ _ _ (place cfg6 0 t6_0 (by decide +kernel)) (place cfg6 1 t6_0 (by decide +kernel)) (place cfg6 2 t6_0 (by decide +kernel)) (start cfg6 0 t6_0) (start cfg6 1 t6_0) (start cfg6 2 t6_0)
        (landed_apply cfg6 V 0 t6_0 _) (landed_apply cfg6 V 1 t6_0 _) (landed_apply cfg6 V 2 t6_0 _)
        (place_val cfg6 0 t6_0 _) (place_val cfg6 1 t6_0 _) (place_val cfg6 2 t6_0 _) (by decide +kernel)))

/-- Call 7 leaves the attention of row block 6. -/
theorem left7 (c : Dev nD) (V : Valuation τ sig (Elt F)) :
    leave (UR sig nD τ) cfg7 (X7 V) c V (Proc.devRef .tc main_v8)
      = attend (main := 1536) (ext := 1792) (by decide) (by decide) (laterOut geo6) (V (Proc.devRef .tc main_v1)) :=
  (leave_arr cfg7 launch₀7.sharedIn (X7 V) c V 3).trans
    ((Pipeline.Dat.arrAt_eq_of_after_last _ 3 t7_0 (by decide +kernel) (X7 V 3 t7_0) fun j => by blk_simp; rfl).trans
      (attend_of _ _ _ _ _ _ _ (place cfg7 0 t7_0 (by decide +kernel)) (place cfg7 1 t7_0 (by decide +kernel)) (place cfg7 2 t7_0 (by decide +kernel)) (start cfg7 0 t7_0) (start cfg7 1 t7_0) (start cfg7 2 t7_0)
        (landed_apply cfg7 V 0 t7_0 _) (landed_apply cfg7 V 1 t7_0 _) (landed_apply cfg7 V 2 t7_0 _)
        (place_val cfg7 0 t7_0 _) (place_val cfg7 1 t7_0 _) (place_val cfg7 2 t7_0 _) (by decide +kernel)))

/-- Call 8 leaves the attention of row block 7. -/
theorem left8 (c : Dev nD) (V : Valuation τ sig (Elt F)) :
    leave (UR sig nD τ) cfg8 (X8 V) c V (Proc.devRef .tc main_v9)
      = attend (main := 1792) (ext := 2048) (by decide) (by decide) (laterOut geo7) (V (Proc.devRef .tc main_v1)) :=
  (leave_arr cfg8 launch₀8.sharedIn (X8 V) c V 3).trans
    ((Pipeline.Dat.arrAt_eq_of_after_last _ 3 t8_0 (by decide +kernel) (X8 V 3 t8_0) fun j => by blk_simp; rfl).trans
      (attend_of _ _ _ _ _ _ _ (place cfg8 0 t8_0 (by decide +kernel)) (place cfg8 1 t8_0 (by decide +kernel)) (place cfg8 2 t8_0 (by decide +kernel)) (start cfg8 0 t8_0) (start cfg8 1 t8_0) (start cfg8 2 t8_0)
        (landed_apply cfg8 V 0 t8_0 _) (landed_apply cfg8 V 1 t8_0 _) (landed_apply cfg8 V 2 t8_0 _)
        (place_val cfg8 0 t8_0 _) (place_val cfg8 1 t8_0 _) (place_val cfg8 2 t8_0 _) (by decide +kernel)))

end Cert.KernelArrays

end
-- ==== Proof.KernelValue.lean ====
/- What the idealized kernel's result array holds at the end of the run, in terms of its arguments: the calls' arrays
   (KernelArrays.lean) followed through the program. -/
module

public import proofs.«01_k».proof.Proof.KernelArrays
public import Idealize.ShloMosaic.Lib.Pointwise

@[expose] public section

noncomputable section

namespace Cert.KernelValue

open Idealize.ShloMosaic Idealize.ShloMosaic.TcCoe Idealize.ShloMosaic.Tactic
open Idealize.SL.Sem
open Cert.Heads Cert.Region Cert.Dense Cert.BlockValue Cert.Mix Cert.KernelIdeal Cert.KernelIdeal.Gen Cert.KernelIdealRun Cert.KernelArrays
open scoped BigOperators

/-! ## The arrays through the program -/

section Arrays

variable {F : FTy → Type} [FloatOps F] [Named F]
variable (m : (ℓ : Loc nD τ sig) → Buf (Elt F) ℓ) (c : Dev nD)

/-- Queries, keys and values side by side, as call 0 leaves them. -/
abbrev joint : Vec F (mat 2048 2304) .bf16 := left m 1 (by decide) c (Proc.devRef .tc main_v1)

/-- They are the joint projection of the arguments. -/
theorem joint_eq : joint m c
    = qkv KernelIdealBodies.scale (shapeCast (mat 2048 768) (m (c, Proc.devRef .tc main_arg0)) shapeCasts_S1x2048x768_S2048x768) (m (c, Proc.devRef .tc main_arg1)) := by
  refine (left0 c (enter m 0 c)).trans (congrArg₂ _ ?_ ?_)
  · show StableHlo.after hostOps0 (launched m c) _ = _
    after_results
    rfl
  · show StableHlo.after hostOps0 (launched m c) _ = _
    after_results

/-- Before a call without host operations nothing changes. -/
theorem enter_mid (p : Fin 10) (h : (ops p : List (HloOp τ sig (Elt F))) = []) : enter m p c = left m p.val p.isLt.le c := by
  unfold enter entered
  rw [h]
  rfl

/-- Row block 0 when the outputs are stacked. -/
theorem block0 : left m 9 (by decide) c (Proc.devRef .tc main_v2)
    = attend (main := 0) (ext := 256) (by decide) (by decide) (firstOut geo0) (joint m c) := by
  rw [left_keeps m main_v2 2 9 (by decide) (by decide) c (by decide),
    show joint m c = left m 1 (by decide) c (Proc.devRef .tc main_v1) from (left_keeps m main_v1 1 1 (by decide) (by decide) c (by decide)).symm]
  exact (left1 c (enter m 1 c)).trans (by rw [enter_mid m c 1 rfl]; rfl)

/-- Row block 1 when the outputs are stacked. -/
theorem block1 : left m 9 (by decide) c (Proc.devRef .tc main_v3)
    = attend (main := 256) (ext := 512) (by decide) (by decide) (laterOut geo1) (joint m c) := by
  rw [left_keeps m main_v3 3 9 (by decide) (by decide) c (by decide),
    show joint m c = left m 2 (by decide) c (Proc.devRef .tc main_v1) from (left_keeps m main_v1 1 2 (by decide) (by decide) c (by decide)).symm]
  exact (left2 c (enter m 2 c)).trans (by rw [enter_mid m c 2 rfl]; rfl)

/-- Row block 2 when the outputs are stacked. -/
theorem block2 : left m 9 (by decide) c (Proc.devRef .tc main_v4)
    = attend (main := 512) (ext := 768) (by decide) (by decide) (laterOut geo2) (joint m c) := by
  rw [left_keeps m main_v4 4 9 (by decide) (by decide) c (by decide),
    show joint m c = left m 3 (by decide) c (Proc.devRef .tc main_v1) from (left_keeps m main_v1 1 3 (by decide) (by decide) c (by decide)).symm]
  exact (left3 c (enter m 3 c)).trans (by rw [enter_mid m c 3 rfl]; rfl)

/-- Row block 3 when the outputs are stacked. -/
theorem block3 : left m 9 (by decide) c (Proc.devRef .tc main_v5)
    = attend (main := 768) (ext := 1024) (by decide) (by decide) (laterOut geo3) (joint m c) := by
  rw [left_keeps m main_v5 5 9 (by decide) (by decide) c (by decide),
    show joint m c = left m 4 (by decide) c (Proc.devRef .tc main_v1) from (left_keeps m main_v1 1 4 (by decide) (by decide) c (by decide)).symm]
  exact (left4 c (enter m 4 c)).trans (by rw [enter_mid m c 4 rfl]; rfl)

/-- Row block 4 when the outputs are stacked. -/
theorem block4 : left m 9 (by decide) c (Proc.devRef .tc main_v6)
    = attend (main := 1024) (ext := 1280) (by decide) (by decide) (laterOut geo4) (joint m c) := by
  rw [left_keeps m main_v6 6 9 (by decide) (by decide) c (by decide),
    show joint m c = left m 5 (by decide) c (Proc.devRef .tc main_v1) from (left_keeps m main_v1 1 5 (by decide) (by decide) c (by decide)).symm]
  exact (left5 c (enter m 5 c)).trans (by rw [enter_mid m c 5 rfl]; rfl)

/-- Row block 5 when the outputs are stacked. -/
theorem block5 : left m 9 (by decide) c (Proc.devRef .tc main_v7)
    = attend (main := 1280) (ext := 1536) (by decide) (by decide) (laterOut geo5) (joint m c) := by
  rw [left_keeps m main_v7 7 9 (by decide) (by decide) c (by decide),
    show joint m c = left m 6 (by decide) c (Proc.devRef .tc main_v1) from (left_keeps m main_v1 1 6 (by decide) (by decide) c (by decide)).symm]
  exact (left6 c (enter m 6 c)).trans (by rw [enter_mid m c 6 rfl]; rfl)

/-- Row block 6 when the outputs are stacked. -/
theorem block6 : left m 9 (by decide) c (Proc.devRef .tc main_v8)
    = attend (main := 1536) (ext := 1792) (by decide) (by decide) (laterOut geo6) (joint m c) := by
  rw [left_keeps m main_v8 8 9 (by decide) (by decide) c (by decide),
    show joint m c = left m 7 (by decide) c (Proc.devRef .tc main_v1) from (left_keeps m main_v1 1 7 (by decide) (by decide) c (by decide)).symm]
  exact (left7 c (enter m 7 c)).trans (by rw [enter_mid m c 7 rfl]; rfl)

/-- Row block 7 when the outputs are stacked. -/
theorem block7 : left m 9 (by decide) c (Proc.devRef .tc main_v9)
    = attend (main := 1792) (ext := 2048) (by decide) (by decide) (laterOut geo7) (joint m c) := by
  rw [left_keeps m main_v9 9 9 (by decide) (by decide) c (by decide),
    show joint m c = left m 8 (by decide) c (Proc.devRef .tc main_v1) from (left_keeps m main_v1 1 8 (by decide) (by decide) c (by decide)).symm]
  exact (left8 c (enter m 8 c)).trans (by rw [enter_mid m c 8 rfl]; rfl)

/-- The row blocks' outputs, before they are stacked. -/
def pieces : Fin 8 → Vec F S256x768 .f32 :=
  ![left m 9 (by decide) c (Proc.devRef .tc main_v2), left m 9 (by decide) c (Proc.devRef .tc main_v3), left m 9 (by decide) c (Proc.devRef .tc main_v4),
    left m 9 (by decide) c (Proc.devRef .tc main_v5), left m 9 (by decide) c (Proc.devRef .tc main_v6), left m 9 (by decide) c (Proc.devRef .tc main_v7),
    left m 9 (by decide) c (Proc.devRef .tc main_v8), left m 9 (by decide) c (Proc.devRef .tc main_v9)]

/-- Eight row blocks stacked. -/
def stack (u : Fin 8 → Vec F S256x768 .f32) : Vec F S2048x768 .f32 :=
  concatenate S2048x768 0 [⟨S256x768, u 0⟩, ⟨S256x768, u 1⟩, ⟨S256x768, u 2⟩, ⟨S256x768, u 3⟩, ⟨S256x768, u 4⟩, ⟨S256x768, u 5⟩, ⟨S256x768, u 6⟩, ⟨S256x768, u 7⟩]
    concatenates_S256x768_S256x768_S256x768_S256x768_S256x768_S256x768_S256x768_S256x768_S2048x768_d0

/-- The stacked outputs. -/
theorem stacked : enter m 9 c (Proc.devRef .tc main_v10) = stack (pieces m c) := by
  show StableHlo.after hostOps9 (left m 9 _ c) _ = _
  after_results
  rfl

/-- The result is the projection of the stacked outputs. -/
theorem result : last m c (Proc.devRef .tc main_v12)
    = shapeCast S1x2048x768 (proj (stack (pieces m c)) (m (c, Proc.devRef .tc main_arg2))) shapeCasts_S2048x768_S1x2048x768 := by
  have hw : enter m 9 c (Proc.devRef .tc main_arg2) = m (c, Proc.devRef .tc main_arg2) := by
    refine Eq.trans ?_ (left_keeps m main_arg2 0 9 (by decide) (by decide) c (by decide))
    show StableHlo.after hostOps9 (left m 9 _ c) _ = _
    after_results
  rw [← hw, ← stacked, ← left9 c (enter m 9 c)]
  show StableHlo.after hostOps10 (left m 10 _ c) _ = _
  after_results
  rfl

end Arrays

/-! ## Entry by entry -/

/-- An entry of the joint projection. -/
theorem qkv_apply (s : EReal) (x : Vec Ideal (mat 2048 768) .f32) (w : Vec Ideal (mat 2304 768) .f32) (r : Fin 2048) (c : Fin 2304) :
    qkv (F := Ideal) s x w (ix2 r c) = (∑ k : Fin 768, x (ix2 r k) * w (ix2 c k)) * (if c.val < 768 then s else 1) := by
  pointwise [qkv]
  by_cases h : c.val < 768 <;> simp [h]

/-- An entry of the output projection. -/
theorem proj_apply (x : Vec Ideal (mat 2048 768) .f32) (w : Vec Ideal (mat 768 768) .f32) (r : Fin 2048) (c : Fin 768) :
    proj (F := Ideal) x w (ix2 r c) = ∑ k : Fin 768, x (ix2 r k) * w (ix2 c k) := by
  pointwise [proj]

/-- An entry of the stacked outputs, when every piece's entries are those of one function. -/
theorem stack_apply (u : Fin 8 → Vec Ideal S256x768 .f32) (G : ℕ → ℕ → EReal)
    (hu : ∀ (k : Fin 8) (i : Fin 256) (c : Fin 768), u k (ix2 i c) = G (256 * k.val + i.val) c.val) (r : Fin 2048) (c : Fin 768) :
    stack u (ix2 r c) = G r.val c.val := by
  pointwise [stack]
  split_ifs <;> exact (hu _ _ _).trans (congrArg (G · c.val) (by simp <;> omega))

/-- The named constant's value. -/
theorem scale_value : KernelIdealBodies.scale (F := Ideal) = (((Real.log 2)⁻¹ * (Real.sqrt 24)⁻¹ : ℝ) : EReal) :=
  IdealRules.named_const.ideal_named_scalar _ _ _ _ rfl

variable (m : (ℓ : Loc nD τ sig) → Buf (Elt Ideal) ℓ) (c : Dev nD) (Y : ℕ → ℕ → ℝ)
  (x : Vec Ideal S1x2048x768 .f32) (w : Vec Ideal S2304x768 .f32) (p : Vec Ideal S768x768 .f32)
  (hx : m (c, Proc.devRef .tc main_arg0) = x) (hw : m (c, Proc.devRef .tc main_arg1) = w) (hp : m (c, Proc.devRef .tc main_arg2) = p)
  (hY : ∀ (r : Fin 2048) (j : Fin 2304), ∑ k : Fin 768, x (ix3 0 r k) * w (ix2 j k) = ((Y r.val j.val : ℝ) : EReal))

/-- The argument as a matrix. -/
theorem flat_apply (r : Fin 2048) (k : Fin 768) :
    shapeCast (mat 2048 768) x shapeCasts_S1x2048x768_S2048x768 (ix2 r k) = x (ix3 0 r k) := by
  pointwise

/-- The result from a matrix. -/
theorem unflat_apply (y : Vec Ideal S2048x768 .f32) (r : Fin 2048) (k : Fin 768) :
    shapeCast S1x2048x768 y shapeCasts_S2048x768_S1x2048x768 (ix3 0 r k) = y (ix2 r k) := by
  pointwise

include hx hw hY

/-- An entry of the queries, keys and values, when they are real numbers `Y`. -/
theorem joint_apply (r : Fin 2048) (j : Fin 2304) :
    joint m c (ix2 r j) = ((Y r.val j.val : ℝ) : EReal) * (if j.val < 768 then (((Real.log 2)⁻¹ * (Real.sqrt 24)⁻¹ : ℝ) : EReal) else 1) := by
  rw [joint_eq, hx, hw, qkv_apply, scale_value, ← hY]
  exact congrArg (· * _) (Finset.sum_congr rfl fun k _ => congrArg (· * w (ix2 j k)) (flat_apply x r k))

/-- The queries are scaled. -/
theorem joint_query (r : Fin 2048) (j : Fin 2304) (h : j.val < 768) :
    joint m c (ix2 r j) = ((Y r.val j.val * ((Real.log 2)⁻¹ * (Real.sqrt 24)⁻¹) : ℝ) : EReal) := by
  rw [joint_apply m c Y x w hx hw hY, if_pos h, ← EReal.coe_mul]

/-- The keys and values are not. -/
theorem joint_rest (r : Fin 2048) (j : Fin 2304) (h : 768 ≤ j.val) : joint m c (ix2 r j) = ((Y r.val j.val : ℝ) : EReal) := by
  rw [joint_apply m c Y x w hx hw hY, if_neg (by omega), mul_one]

/-- Every row block's outputs are its rows' mixtures. -/
theorem pieces_apply (k : Fin 8) (i : Fin 256) (j : Fin 768) :
    pieces m c k (ix2 i j) = ((headMix Y (256 * k.val + i.val) j.val : ℝ) : EReal) := by
  have hq := joint_query m c Y x w hx hw hY
  have hkv := joint_rest m c Y x w hx hw hY
  have later : ∀ {main ext : ℕ} (g : Geo main ext) (hm : main + 256 ≤ 2048) (he : 0 + ext ≤ 2048) (i : Fin 256) (j : Fin 768),
      attend hm he (laterOut g) (joint m c) (ix2 i j) = ((headMix Y (main + i.val) j.val : ℝ) : EReal) := fun g hm he i j =>
    attend_apply hm he (laterOut g) (fun q k v i Q K V d hq hk hv => HeadValue.laterOut_apply g q k v i Q K V d hq hk hv) _ Y hq hkv i j
  fin_cases k
  · exact (congrFun (block0 m c) _).trans
      (attend_apply _ _ (firstOut geo0) (fun q k v i Q K V d hq hk hv => HeadValue.firstOut_apply i Q K V geo0 q k v d hq hk hv) _ Y hq hkv i j)
  · exact (congrFun (block1 m c) _).trans (later geo1 _ _ i j)
  · exact (congrFun (block2 m c) _).trans (later geo2 _ _ i j)
  · exact (congrFun (block3 m c) _).trans (later geo3 _ _ i j)
  · exact (congrFun (block4 m c) _).trans (later geo4 _ _ i j)
  · exact (congrFun (block5 m c) _).trans (later geo5 _ _ i j)
  · exact (congrFun (block6 m c) _).trans (later geo6 _ _ i j)
  · exact (congrFun (block7 m c) _).trans (later geo7 _ _ i j)

include hp

/-- An entry of the result: the projection of the rows' mixtures. -/
theorem result_apply (r : Fin 2048) (j : Fin 768) :
    (last m c (Proc.devRef .tc main_v12) : Vec Ideal S1x2048x768 .f32) (ix3 0 r j)
      = ∑ k : Fin 768, ((headMix Y r.val k.val : ℝ) : EReal) * p (ix2 j k) := by
  rw [result, hp, unflat_apply, proj_apply]
  simp only [stack_apply (pieces m c) (fun a b => ((headMix Y a b : ℝ) : EReal)) (pieces_apply m c Y x w hx hw hY)]

end Cert.KernelValue

end
-- ==== Proof.RefParts.lean ====
/- The reference's result as a composition of its parts: the joint projection, the heads' rows, the masked scores, the
   softmax, and the output projection. Each part is the reference's own operations on arrays. -/
module

public import proofs.«01_k».proof.Proof.Gen.ReferenceIdeal.Run
public import Idealize.ShloMosaic.PureOps.Ideal

@[expose] public section

set_option maxRecDepth 16384

noncomputable section

namespace Cert.RefParts

open Idealize.ShloMosaic Idealize.ShloMosaic.TcCoe Idealize.SL.Sem
open Cert.ReferenceIdeal Cert.ReferenceIdeal.Gen

/-- Queries, keys and values side by side. -/
def wide (x : FVec Ideal S1x2048x768 .f32) (w : FVec Ideal S2304x768 .f32) : FVec Ideal S1x2048x2304 .f32 :=
  Host.dotGeneral dot_S1x2048x768_S768x2304_S1x2048x2304_2_0_01_1_n_n none x (transpose S768x2304 [1, 0] w transposes_S2304x768_S768x2304_1_0)

/-- 768 columns of it, cut into heads. -/
def split (off : Fin 3 → ℕ) (h : S1x2048x2304.Slices off S1x2048x768) (y : FVec Ideal S1x2048x2304 .f32) : FVec Ideal S1x32x2048x24 .f32 :=
  transpose S1x32x2048x24 [0, 2, 1, 3] (shapeCast S1x2048x32x24 (extractStridedSlice S1x2048x768 off y h) shapeCasts_S1x2048x768_S1x2048x32x24)
    transposes_S1x2048x32x24_S1x32x2048x24_0_2_1_3

/-- Which keys a row sees. -/
def sees : IVec S1x32x2048x2048 1 :=
  broadcastInDim S1x32x2048x2048 ![0, 1, 2, 3] bcast_S1x1x2048x2048_S1x32x2048x2048_0_1_2_3 (broadcastInDim S1x1x2048x2048 ![2, 3] bcast_S2048x2048_S1x1x2048x2048_2_3
    (select (cmpi .sge (addi (iotaInDim S2048x2048 32 0) (broadcastInDim S2048x2048 ![] bcast_S_S2048x2048 (constantI S_ 32 0#32))) (iotaInDim S2048x2048 32 1))
      (broadcastInDim S2048x2048 ![] bcast_S_S2048x2048 (constantI S_ 1 1#1)) (broadcastInDim S2048x2048 ![] bcast_S_S2048x2048 (constantI S_ 1 0#1))))

/-- The products of queries and keys. -/
def products (y : FVec Ideal S1x2048x2304 .f32) : FVec Ideal S32x2048x2048 .f32 :=
  Host.dotGeneral dot_S32x2048x24_S32x24x2048_S32x2048x2048_2_1_1_2_0_0 none
    (shapeCast S32x2048x24 (split ![0, 0, 0] slices_S1x2048x2304_S1x2048x768_0_0_0 y) shapeCasts_S1x32x2048x24_S32x2048x24)
    (shapeCast S32x24x2048 (transpose S1x32x24x2048 [0, 1, 3, 2] (split ![0, 0, 768] slices_S1x2048x2304_S1x2048x768_0_0_768 y) transposes_S1x32x2048x24_S1x32x24x2048_0_1_3_2)
      shapeCasts_S1x32x24x2048_S32x24x2048)

/-- The factor on the products. -/
def factor : FVec Ideal S_ .f32 := Host.divf (constant S_ .f32 0x3F800000#32) (Host.sqrt (constant S_ .f32 0x41C00000#32))

/-- The scores: scaled, and minus infinity where the key is not seen. -/
def scores (p : FVec Ideal S32x2048x2048 .f32) : FVec Ideal S1x32x2048x2048 .f32 :=
  select sees (mulf (broadcastInDim S1x32x2048x2048 ![1, 2, 3] bcast_S32x2048x2048_S1x32x2048x2048_1_2_3 p) (broadcastInDim S1x32x2048x2048 ![] bcast_S_S1x32x2048x2048 factor))
    (broadcastInDim S1x32x2048x2048 ![] bcast_S_S1x32x2048x2048 (constant S_ .f32 0xFF800000#32))

/-- A number for each row, repeated along the row. -/
def along (t : FVec Ideal S1x32x2048 .f32) : FVec Ideal S1x32x2048x2048 .f32 :=
  broadcastInDim S1x32x2048x2048 ![0, 1, 2, 3] bcast_S1x32x2048x1_S1x32x2048x2048_0_1_2_3 (broadcastInDim S1x32x2048x1 ![0, 1, 2] bcast_S1x32x2048_S1x32x2048x1_0_1_2 t)

/-- Each row's largest score. -/
def largest (s : FVec Ideal S1x32x2048x2048 .f32) : FVec Ideal S1x32x2048 .f32 :=
  maximumf (broadcastInDim S1x32x2048 ![] bcast_S_S1x32x2048 (constant S_ .f32 0xFF800000#32))
    (Host.reduce FloatOps.maximumf s (constant S_ .f32 0xFF800000#32) reducesTo_S1x32x2048x2048_S1x32x2048_d3 h_S_)

/-- The weights before they are normalized. -/
def weights (s : FVec Ideal S1x32x2048x2048 .f32) : FVec Ideal S1x32x2048x2048 .f32 := Host.exp (subf s (along (largest s)))

/-- Each row's weights summed. -/
def total (e : FVec Ideal S1x32x2048x2048 .f32) : FVec Ideal S1x32x2048 .f32 :=
  Host.reduceAdd e (constant S_ .f32 0x00000000#32) reducesTo_S1x32x2048x2048_S1x32x2048_d3 h_S_

/-- The weighted values, heads side by side. -/
def mixed (e : FVec Ideal S1x32x2048x2048 .f32) (v : FVec Ideal S1x32x2048x24 .f32) : FVec Ideal S1x2048x768 .f32 :=
  shapeCast S1x2048x768 (transpose S1x2048x32x24 [0, 2, 1, 3] (broadcastInDim S1x32x2048x24 ![1, 2, 3] bcast_S32x2048x24_S1x32x2048x24_1_2_3
    (Host.dotGeneral dot_S32x2048x2048_S32x2048x24_S32x2048x24_2_1_1_2_0_0 none
      (shapeCast S32x2048x2048 (Host.divf e (along (total e))) shapeCasts_S1x32x2048x2048_S32x2048x2048)
      (shapeCast S32x2048x24 v shapeCasts_S1x32x2048x24_S32x2048x24))) transposes_S1x32x2048x24_S1x2048x32x24_0_2_1_3) shapeCasts_S1x2048x32x24_S1x2048x768

/-- The output projection. -/
def projected (z : FVec Ideal S1x2048x768 .f32) (w : FVec Ideal S768x768 .f32) : FVec Ideal S1x2048x768 .f32 :=
  Host.dotGeneral dot_S1x2048x768_S768x768_S1x2048x768_2_0_01_1_n_n none z (transpose S768x768 [1, 0] w transposes_S768x768_S768x768_1_0)

/-- The attention of all heads, before the output projection. -/
def attention (y : FVec Ideal S1x2048x2304 .f32) : FVec Ideal S1x2048x768 .f32 :=
  mixed (weights (scores (products y))) (split ![0, 0, 1536] slices_S1x2048x2304_S1x2048x768_0_0_1536 y)

/-- The reference's result is its parts composed. -/
theorem result (m : (ℓ : Loc nD τ sig) → Buf (Elt Ideal) ℓ) (c : Dev nD) :
    Cert.ReferenceIdeal.Value.res_out0 m c
      = projected (attention (wide (m ((c.tc : Thread nD τ).loc main_arg0)) (m ((c.tc : Thread nD τ).loc main_arg1)))) (m ((c.tc : Thread nD τ).loc main_arg2)) := by
  unfold Cert.ReferenceIdeal.Value.res_out0 Cert.ReferenceIdeal.Value.res_main_v42
  rfl

end Cert.RefParts

end
-- ==== Proof.RefValue.lean ====
/- What the reference's parts are, entry by entry, and that its attention of real queries, keys and values is the row's
   mixture (Mix.lean). -/
module

public import proofs.«01_k».proof.Proof.RefParts
public import proofs.«01_k».proof.Proof.Mix
public import proofs.«01_k».proof.Proof.Consts
public import Idealize.ShloMosaic.Lib.Pointwise
public import Idealize.ShloMosaic.Lib.WordCmp

@[expose] public section

set_option maxRecDepth 16384

noncomputable section

namespace Cert.RefValue

open Idealize.ShloMosaic Idealize.ShloMosaic.TcCoe Cert.Mix Cert.RefParts Cert.ReferenceIdeal Cert.ReferenceIdeal.Gen
open scoped BigOperators

/-! ## The parts entry by entry -/

/-- An entry of the joint projection. -/
theorem wide_apply (x : FVec Ideal S1x2048x768 .f32) (w : FVec Ideal S2304x768 .f32) (r : Fin 2048) (c : Fin 2304) :
    wide x w (ix3 0 r c) = ∑ k : Fin 768, x (ix3 0 r k) * w (ix2 c k) := by
  pointwise [wide]

/-- An entry of the output projection. -/
theorem projected_apply (z : FVec Ideal S1x2048x768 .f32) (w : FVec Ideal S768x768 .f32) (r : Fin 2048) (c : Fin 768) :
    projected z w (ix3 0 r c) = ∑ k : Fin 768, z (ix3 0 r k) * w (ix2 c k) := by
  pointwise [projected]

/-- A row sees the keys up to itself. -/
theorem sees_apply (h : Fin 32) (r c : Fin 2048) : sees (ix4 0 h r c) = if c.val ≤ r.val then 1#1 else 0#1 := by
  pointwise [sees]
  have hb : IntOp.cmpi CmpIPredicate.sge (BitVec.ofNat 32 r.val) (BitVec.ofNat 32 c.val) = if c.val ≤ r.val then 1#1 else 0#1 := by
    word_cmp
    by_cases h : c.val ≤ r.val <;> simp [h]
  rw [show IntOp.addi (BitVec.ofNat 32 r.val) 0#32 = BitVec.ofNat 32 r.val from BitVec.add_zero _, hb]
  by_cases h : c.val ≤ r.val <;> simp [h, Scalar.select]

/-- A product of a query and a key. -/
theorem products_apply (y : FVec Ideal S1x2048x2304 .f32) (h : Fin 32) (r c : Fin 2048) :
    products y (ix3 h r c) = ∑ d : Fin 24, y (ix3 0 r ⟨h.val * 24 + d.val, by omega⟩) * y (ix3 0 c ⟨768 + (h.val * 24 + d.val), by omega⟩) := by
  pointwise [products, split]

/-- The factor on the products. -/
theorem factor_value : Ideal.div 1 (Ideal.sqrt (Ideal.ofBits .f32 0x41C00000#32)) = (((Real.sqrt 24)⁻¹ : ℝ) : EReal) := by
  have h : Real.sqrt 24 ≠ 0 := (Real.sqrt_pos.mpr (by norm_num)).ne'
  rw [Consts.twentyFour, Ideal.sqrt_coe, if_neg (by norm_num), Ideal.div_coe h, one_mul, one_div]

/-- A score. -/
theorem scores_apply (p : FVec Ideal S32x2048x2048 .f32) (h : Fin 32) (r c : Fin 2048) :
    scores p (ix4 0 h r c) = if c.val ≤ r.val then p (ix3 h r c) * (((Real.sqrt 24)⁻¹ : ℝ) : EReal) else ⊥ := by
  pointwise [scores, factor]
  rw [sees_apply, factor_value, Consts.negInf]
  by_cases h : c.val ≤ r.val <;> simp [h, Scalar.select]

/-- A row's number along the row. -/
theorem along_apply (t : FVec Ideal S1x32x2048 .f32) (h : Fin 32) (r c : Fin 2048) : along t (ix4 0 h r c) = t (ix3 0 h r) := by
  pointwise [along]

/-- A row's largest score, before it is compared with minus infinity. -/
theorem reduce_apply (s : FVec Ideal S1x32x2048x2048 .f32) (h : Fin 32) (r : Fin 2048) :
    (Host.reduce FloatOps.maximumf s (constant S_ .f32 0xFF800000#32) reducesTo_S1x32x2048x2048_S1x32x2048_d3 h_S_) (ix3 0 h r)
      = Finset.univ.fold max (Ideal.ofBits .f32 0xFF800000#32) fun c : Fin 2048 => s (ix4 0 h r c) := by
  pointwise

/-- A row's largest score. -/
theorem largest_apply (s : FVec Ideal S1x32x2048x2048 .f32) (h : Fin 32) (r : Fin 2048) :
    largest s (ix3 0 h r) = max ⊥ (Finset.univ.fold max ⊥ fun c : Fin 2048 => s (ix4 0 h r c)) := by
  have h0 : (broadcastInDim S1x32x2048 ![] bcast_S_S1x32x2048 (constant (F := Ideal) S_ .f32 0xFF800000#32)) (ix3 0 h r) = ⊥ := by
    pointwise
    exact Consts.negInf
  unfold largest
  rw [show ∀ a b : FVec Ideal S1x32x2048 .f32, maximumf a b (ix3 0 h r) = max (a (ix3 0 h r)) (b (ix3 0 h r)) from fun _ _ => rfl,
    reduce_apply, h0, Consts.negInf]

/-- A weight. -/
theorem weights_apply (s : FVec Ideal S1x32x2048x2048 .f32) (h : Fin 32) (r c : Fin 2048) :
    weights s (ix4 0 h r c) = Ideal.exp (s (ix4 0 h r c) - largest s (ix3 0 h r)) := by
  rw [← along_apply (largest s) h r c]
  rfl

/-- An entry of the values. -/
theorem values_apply (y : FVec Ideal S1x2048x2304 .f32) (h : Fin 32) (r : Fin 2048) (d : Fin 24) :
    split ![0, 0, 1536] slices_S1x2048x2304_S1x2048x768_0_0_1536 y (ix4 0 h r d) = y (ix3 0 r ⟨1536 + (h.val * 24 + d.val), by omega⟩) := by
  pointwise [split]

/-- An entry of the weighted values. -/
theorem mixed_apply (e : FVec Ideal S1x32x2048x2048 .f32) (v : FVec Ideal S1x32x2048x24 .f32) (r : Fin 2048) (c : Fin 768) :
    mixed e v (ix3 0 r c) = ∑ j : Fin 2048, Ideal.div (e (ix4 0 ⟨c.val / 24, by omega⟩ r j)) (∑ j' : Fin 2048, e (ix4 0 ⟨c.val / 24, by omega⟩ r j'))
      * v (ix4 0 ⟨c.val / 24, by omega⟩ j ⟨c.val % 24, by omega⟩) := by
  pointwise [mixed, along, total]

/-! ## The attention of real entries -/

/-- The attention of real queries, keys and values is the row's mixture. -/
theorem attention_apply (y : FVec Ideal S1x2048x2304 .f32) (Y : ℕ → ℕ → ℝ) (hy : ∀ (r : Fin 2048) (c : Fin 2304), y (ix3 0 r c) = ((Y r.val c.val : ℝ) : EReal))
    (r : Fin 2048) (c : Fin 768) :
    attention y (ix3 0 r c) = ((headMix Y r.val c.val : ℝ) : EReal) := by
  have hh : c.val / 24 < 32 := by omega
  set h : Fin 32 := ⟨c.val / 24, hh⟩ with hdef
  have hs : ∀ j : Fin 2048, scores (products y) (ix4 0 h r j) = if j.val ≤ r.val then ((headScore Y (c.val / 24) r.val j.val : ℝ) : EReal) else ⊥ := fun j => by
    rw [scores_apply, products_apply]
    simp only [hy, ← EReal.coe_mul, coe_sum]
    rfl
  obtain ⟨m, hm⟩ : ∃ m : ℝ, largest (scores (products y)) (ix3 0 h r) = (m : EReal) := by
    rw [largest_apply, funext hs]
    refine max_real _ _ bot_ne_top (fold_ne_top _ _ fun j => ?_) (fold_ne_bot _ r ?_)
    · split
      exacts [EReal.coe_ne_top _, bot_ne_top]
    · rw [if_pos le_rfl]
      exact EReal.coe_ne_bot _
  have he : ∀ j : Fin 2048, weights (scores (products y)) (ix4 0 h r j)
      = ((if j.val ≤ r.val then Real.exp (headScore Y (c.val / 24) r.val j.val - m) else 0 : ℝ) : EReal) := fun j => by
    rw [weights_apply, hm, hs]
    by_cases hj : j.val ≤ r.val
    · rw [if_pos hj, if_pos hj, ← EReal.coe_sub, Ideal.exp_coe]
    · rw [if_neg hj, if_neg hj, exp_hidden, EReal.coe_zero]
  have hl := weights_pos r.val fun j => headScore Y (c.val / 24) r.val j - m
  unfold attention
  rw [mixed_apply]
  simp only [← hdef, he, values_apply, hy, coe_sum]
  rw [sum_upto 2048 r.val r.isLt fun j => Real.exp (headScore Y (c.val / 24) r.val j - m)]
  simp only [Ideal.div_coe hl.ne', ← EReal.coe_mul, coe_sum]
  refine congrArg _ ((Finset.sum_congr rfl fun j _ => ?_).trans ((sum_upto 2048 r.val r.isLt fun j =>
    (Real.exp (headScore Y (c.val / 24) r.val j - m) * Y j (1536 + (c.val / 24 * 24 + c.val % 24)))
      * (1 / ∑ j ∈ Finset.range (r.val + 1), Real.exp (headScore Y (c.val / 24) r.val j - m))).trans ?_))
  · by_cases hj : j.val ≤ r.val
    · rw [if_pos hj, if_pos hj]; ring
    · rw [if_neg hj, if_neg hj]; ring
  · rw [← Finset.sum_mul, mul_one_div, mix_shift r.val _ (fun j => Y j (1536 + (c.val / 24 * 24 + c.val % 24)))]
    rfl

end Cert.RefValue

end
-- ==== Proof.Equation.lean ====
/- The equation: of inputs the precondition allows, the idealized kernel and the reference compute the same array. Each
   entry of either is the projection of the rows' mixtures. -/
module

public import proofs.«01_k».proof.Defs
public import proofs.«01_k».proof.Proof.Finite
public import proofs.«01_k».proof.Proof.KernelValue
public import proofs.«01_k».proof.Proof.RefValue
public import proofs.«01_k».proof.Proof.Gen.ReferenceIdeal.Run

@[expose] public section

noncomputable section

namespace Cert.Equation

open Idealize.ShloMosaic Idealize.ShloMosaic.TcCoe Idealize.SL.Sem
open Cert.Mix
open scoped BigOperators

/-- An entry of the reference's result, when the queries, keys and values are real numbers `Y`. -/
theorem reference_apply (x : FVec Ideal Cert.ReferenceIdeal.S1x2048x768 .f32) (w : FVec Ideal Cert.ReferenceIdeal.S2304x768 .f32)
    (p : FVec Ideal Cert.ReferenceIdeal.S768x768 .f32) (Y : ℕ → ℕ → ℝ)
    (hY : ∀ (r : Fin 2048) (j : Fin 2304), ∑ k : Fin 768, x (ix3 0 r k) * w (ix2 j k) = ((Y r.val j.val : ℝ) : EReal)) (r : Fin 2048) (j : Fin 768) :
    RefParts.projected (RefParts.attention (RefParts.wide x w)) p (ix3 0 r j) = ∑ k : Fin 768, ((headMix Y r.val k.val : ℝ) : EReal) * p (ix2 j k) := by
  rw [RefValue.projected_apply]
  exact Finset.sum_congr rfl fun k _ => congrArg (· * p (ix2 j k))
    (RefValue.attention_apply _ Y (fun r c => (RefValue.wide_apply x w r c).trans (hY r c)) r k)

/-- The two results are one array. -/
theorem same (m : (ℓ : Loc Cert.KernelIdeal.nD Cert.KernelIdeal.τ Cert.KernelIdeal.sig) → Buf (Elt Ideal) ℓ) (c : Dev Cert.KernelIdeal.nD)
    (x : FVec Ideal Cert.ReferenceIdeal.S1x2048x768 .f32) (w : FVec Ideal Cert.ReferenceIdeal.S2304x768 .f32) (p : FVec Ideal Cert.ReferenceIdeal.S768x768 .f32)
    (hx : m (c, Proc.devRef .tc Cert.KernelIdeal.main_arg0) = x) (hw : m (c, Proc.devRef .tc Cert.KernelIdeal.main_arg1) = w)
    (hp : m (c, Proc.devRef .tc Cert.KernelIdeal.main_arg2) = p)
    (hX : ∀ i, ∃ t : ℝ, x i = (t : EReal)) (hW : ∀ i, ∃ t : ℝ, w i = (t : EReal)) :
    KernelIdealRun.last m c (Proc.devRef .tc Cert.KernelIdeal.main_v12) = RefParts.projected (RefParts.attention (RefParts.wide x w)) p := by
  obtain ⟨Y, hY⟩ := Finite.products_real x w hX hW
  refine funext fun i => ?_
  obtain ⟨a, r, j, rfl⟩ : ∃ (a : Fin 1) (r : Fin 2048) (j : Fin 768), i = ix3 a r j := ⟨i 0, i 1, i 2, by funext d; fin_cases d <;> rfl⟩
  obtain rfl : a = 0 := Subsingleton.elim _ _
  exact (KernelValue.result_apply m c Y x w p hx hw hp hY r j).trans (reference_apply x w p Y hY r j).symm

/-- Both programs run and leave the same result. -/
theorem algebraic [Cert.Pre_finite_inputs.Facts] : Cert.algebraic_KernelIdeal_ReferenceIdeal_pre_finite_inputs := by
  intro m ρ m' ρ' hpre hagree
  refine ⟨fun c => KernelIdealRun.last m c (Proc.devRef .tc Cert.KernelIdeal.main_v12), ?_, ?_⟩
  · refine (θ_run Cert.KernelIdeal.defs _ _).mono (fun r h c => ?_) (KernelIdealRun.run m ρ)
    exact ⟨h.1 c _ (KernelIdealRun.mem_uc Cert.KernelIdeal.main_v12 (by decide)),
      (h.1 c _ (KernelIdealRun.mem_uc Cert.KernelIdeal.main_arg0 (by decide))).trans (KernelIdealRun.last_keeps m Cert.KernelIdeal.main_arg0 (by decide) (by decide) c),
      (h.1 c _ (KernelIdealRun.mem_uc Cert.KernelIdeal.main_arg1 (by decide))).trans (KernelIdealRun.last_keeps m Cert.KernelIdeal.main_arg1 (by decide) (by decide) c),
      (h.1 c _ (KernelIdealRun.mem_uc Cert.KernelIdeal.main_arg2 (by decide))).trans (KernelIdealRun.last_keeps m Cert.KernelIdeal.main_arg2 (by decide) (by decide) c)⟩
  · refine (θ_run Cert.ReferenceIdeal.defs _ _).mono (fun r h c => ⟨(h c).1.trans ?_, (h c).2⟩) (Cert.ReferenceIdeal.Value.run (F := Ideal) m' ρ')
    obtain ⟨h0, h1, h2⟩ := hagree c
    obtain ⟨hX, hW⟩ := Finite.entries _ _ _ (hpre c)
    refine (RefParts.result m' c).trans ?_
    rw [h0, h1, h2]
    exact (same m c _ _ _ rfl rfl rfl hX hW).symm

end Cert.Equation

end
-- ==== Proof.lean ====
module

public import proofs.«01_k».proof.Defs
public import proofs.«01_k».proof.Proof.Frames
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The broadcasts the precondition takes. -/
theorem preFacts : Cert.Pre_finite_inputs.Facts := ⟨by decide, by decide⟩

/-- Everything this certificate claims. -/
theorem claim : Cert.Claim :=
  ⟨Cert.Kernel.Gen.facts, Cert.KernelIdeal.Gen.facts, Cert.ReferenceIdeal.Gen.facts, preFacts,
    Frames.kernel, Frames.kernelIdeal, fun m ρ _ => Frames.kernelIdeal m ρ trivial,
    Frames.referenceIdeal, fun m ρ _ => Frames.referenceIdeal m ρ trivial,
    Frames.preserves, @Equation.algebraic preFacts⟩

end Cert.Proof

end
